-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_v95) = v1 c
          ∧ r.2.mem ((c.tc : Thread Cert.ReferenceIdeal.nD Cert.ReferenceIdeal.τ).loc Cert.ReferenceIdeal.main_v98) = v2 c
          ∧ r.2.mem ((c.tc : Thread Cert.ReferenceIdeal.nD Cert.ReferenceIdeal.τ).loc Cert.ReferenceIdeal.main_v94) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x20000x1x4 : Shape := ⟨4, ![8, 20000, 1, 4]⟩
abbrev S8x20000x91 : Shape := ⟨3, ![8, 20000, 91]⟩
abbrev S8x20000x4 : Shape := ⟨3, ![8, 20000, 4]⟩
abbrev S8x4x20000 : Shape := ⟨3, ![8, 4, 20000]⟩
abbrev S_ : Shape := ⟨0, ![]⟩
abbrev S8x4x20096 : Shape := ⟨3, ![8, 4, 20096]⟩
abbrev S8x91x20000 : Shape := ⟨3, ![8, 91, 20000]⟩
abbrev S8x91x20096 : Shape := ⟨3, ![8, 91, 20096]⟩
abbrev S8x1x128 : Shape := ⟨3, ![8, 1, 128]⟩
abbrev S8x1x1 : Shape := ⟨3, ![8, 1, 1]⟩
abbrev S8x128 : Shape := ⟨2, ![8, 128]⟩
abbrev S8x1 : Shape := ⟨2, ![8, 1]⟩
abbrev S8x100 : Shape := ⟨2, ![8, 100]⟩
abbrev S8x100x1 : Shape := ⟨3, ![8, 100, 1]⟩
abbrev S8x100x4 : Shape := ⟨3, ![8, 100, 4]⟩
abbrev S8 : Shape := ⟨1, ![8]⟩
abbrev S1x91x20096 : Shape := ⟨3, ![1, 91, 20096]⟩
abbrev S1x4x20096 : Shape := ⟨3, ![1, 4, 20096]⟩
abbrev S1x1x128 : Shape := ⟨3, ![1, 1, 128]⟩
abbrev S1x1x1 : Shape := ⟨3, ![1, 1, 1]⟩
abbrev S91x20096 : Shape := ⟨2, ![91, 20096]⟩
abbrev S4x20096 : Shape := ⟨2, ![4, 20096]⟩
abbrev S1x20096 : Shape := ⟨2, ![1, 20096]⟩
abbrev S91x256 : Shape := ⟨2, ![91, 256]⟩
abbrev S91 : Shape := ⟨1, ![91]⟩
abbrev S91x1 : Shape := ⟨2, ![91, 1]⟩
abbrev S1x128 : Shape := ⟨2, ![1, 128]⟩
abbrev S1x91x256 : Shape := ⟨3, ![1, 91, 256]⟩
abbrev S1 : Shape := ⟨1, ![1]⟩
abbrev S1x1 : Shape := ⟨2, ![1, 1]⟩

abbrev nBuf : Space → Nat
  | .hbm => 37
  | .vmem => 18
  | .smem => 0
  | _ => 0

abbrev bufTy : (tb : Table) → Fin (tcTables nBuf tb) → BufTy
  | .hbm, ⟨0, _⟩ => ⟨S8x20000x1x4, .f32⟩
  | .hbm, ⟨1, _⟩ => ⟨S8x20000x91, .f32⟩
  | .hbm, ⟨2, _⟩ => ⟨S8x20000x4, .f32⟩
  | .hbm, ⟨3, _⟩ => ⟨S8x4x20000, .f32⟩
  | .hbm, ⟨4, _⟩ => ⟨S_, .i32⟩
  | .hbm, ⟨5, _⟩ => ⟨S_, .f32⟩
  | .hbm, ⟨6, _⟩ => ⟨S8x4x20096, .f32⟩
  | .hbm, ⟨7, _⟩ => ⟨S8x91x20000, .f32⟩
  | .hbm, ⟨8, _⟩ => ⟨S_, .f32⟩
  | .hbm, ⟨9, _⟩ => ⟨S_, .f32⟩
  | .hbm, ⟨10, _⟩ => ⟨S8x91x20096, .f32⟩
  | .hbm, ⟨11, _⟩ => ⟨S8x1x128, .f32⟩
  | .hbm, ⟨12, _⟩ => ⟨S8x1x128, .f32⟩
  | .hbm, ⟨13, _⟩ => ⟨S8x1x128, .f32⟩
  | .hbm, ⟨14, _⟩ => ⟨S8x1x128, .f32⟩
  | .hbm, ⟨15, _⟩ => ⟨S8x1x128, .f32⟩
  | .hbm, ⟨16, _⟩ => ⟨S8x1x128, .i32⟩
  | .hbm, ⟨17, _⟩ => ⟨S8x1x1, .i32⟩
  | .hbm, ⟨18, _⟩ => ⟨S8x128, .f32⟩
  | .hbm, ⟨19, _⟩ => ⟨S8x128, .f32⟩
  | .hbm, ⟨20, _⟩ => ⟨S8x128, .f32⟩
  | .hbm, ⟨21, _⟩ => ⟨S8x128, .f32⟩
  | .hbm, ⟨22, _⟩ => ⟨S8x128, .f32⟩
  | .hbm, ⟨23, _⟩ => ⟨S8x128, .i32⟩
  | .hbm, ⟨24, _⟩ => ⟨S8x1, .i32⟩
  | .hbm, ⟨25, _⟩ => ⟨S8x100, .f32⟩
  | .hbm, ⟨26, _⟩ => ⟨S8x100, .f32⟩
  | .hbm, ⟨27, _⟩ => ⟨S8x100, .f32⟩
  | .hbm, ⟨28, _⟩ => ⟨S8x100, .f32⟩
  | .hbm, ⟨29, _⟩ => ⟨S8x100x1, .f32⟩
  | .hbm, ⟨30, _⟩ => ⟨S8x100x1, .f32⟩
  | .hbm, ⟨31, _⟩ => ⟨S8x100x1, .f32⟩
  | .hbm, ⟨32, _⟩ => ⟨S8x100x1, .f32⟩
  | .hbm, ⟨33, _⟩ => ⟨S8x100x4, .f32⟩
  | .hbm, ⟨34, _⟩ => ⟨S8x100, .f32⟩
  | .hbm, ⟨35, _⟩ => ⟨S8x100, .i32⟩
  | .hbm, ⟨36, _⟩ => ⟨S8, .i32⟩
  | .local _ .vmem, ⟨0, _⟩ => ⟨S1x91x20096, .f32⟩
  | .local _ .vmem, ⟨1, _⟩ => ⟨S1x91x20096, .f32⟩
  | .local _ .vmem, ⟨2, _⟩ => ⟨S1x4x20096, .f32⟩
  | .local _ .vmem, ⟨3, _⟩ => ⟨S1x4x20096, .f32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | .local _ .vmem, ⟨10, _⟩ => ⟨S1x1x128, .f32⟩
  | .local _ .vmem, ⟨11, _⟩ => ⟨S1x1x128, .f32⟩
  | .local _ .vmem, ⟨12, _⟩ => ⟨S1x1x128, .f32⟩
  | .local _ .vmem, ⟨13, _⟩ => ⟨S1x1x128, .f32⟩
  | .local _ .vmem, ⟨14, _⟩ => ⟨S1x1x128, .i32⟩
  | .local _ .vmem, ⟨15, _⟩ => ⟨S1x1x128, .i32⟩
  | .local _ .vmem, ⟨16, _⟩ => ⟨S1x1x1, .i32⟩
  | .local _ .vmem, ⟨17, _⟩ => ⟨S1x1x1, .i32⟩
  | _, _ => ⟨S8x20000x1x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_c : Ref sig .tc := ⟨.hbm, 4, rfl⟩
abbrev main_call0_call0_v0 : Ref sig .tc := ⟨.hbm, 5, rfl⟩
abbrev main_call0_v2 : Ref sig .tc := ⟨.hbm, 6, rfl⟩
abbrev main_call0_v3 : Ref sig .tc := ⟨.hbm, 7, rfl⟩
abbrev main_call0_cst : Ref sig .tc := ⟨.hbm, 8, rfl⟩
abbrev main_call0_call1_v0 : Ref sig .tc := ⟨.hbm, 9, rfl⟩
abbrev main_call0_v4 : Ref sig .tc := ⟨.hbm, 10, rfl⟩
abbrev main_call0_v5_0 : Ref sig .tc := ⟨.hbm, 11, rfl⟩
abbrev main_call0_v5_1 : Ref sig .tc := ⟨.hbm, 12, rfl⟩
abbrev main_call0_v5_2 : Ref sig .tc := ⟨.hbm, 13, rfl⟩
abbrev main_call0_v5_3 : Ref sig .tc := ⟨.hbm, 14, rfl⟩
abbrev main_call0_v5_4 : Ref sig .tc := ⟨.hbm, 15, rfl⟩
abbrev main_call0_v5_5 : Ref sig .tc := ⟨.hbm, 16, rfl⟩
abbrev main_call0_v5_6 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_v15 : Ref sig .tc := ⟨.hbm, 27, rfl⟩
abbrev main_call0_v16 : Ref sig .tc := ⟨.hbm, 28, rfl⟩
abbrev main_call0_v17 : Ref sig .tc := ⟨.hbm, 29, rfl⟩
abbrev main_call0_v18 : Ref sig .tc := ⟨.hbm, 30, rfl⟩
abbrev main_call0_v19 : Ref sig .tc := ⟨.hbm, 31, rfl⟩
abbrev main_call0_v20 : Ref sig .tc := ⟨.hbm, 32, rfl⟩
abbrev main_v0_0 : Ref sig .tc := ⟨.hbm, 33, rfl⟩
abbrev main_v0_1 : Ref sig .tc := ⟨.hbm, 34, rfl⟩
abbrev main_v0_2 : Ref sig .tc := ⟨.hbm, 35, rfl⟩
abbrev main_v0_3 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c200_i32 : BitVec 32 := 200#32
  let v19 : BitVec 32 := Scalar.addi c0_i32 c200_i32
  let c1_i32 : BitVec 32 := 1#32
  ⟨c0_i32, v19, c1_i32⟩
@[reducible] def k0_t2_loop : Scf.Loop 32 :=
  let c0_i32_13 : BitVec 32 := 0#32
  let c200_i32_14 : BitVec 32 := 200#32
  let v27 : BitVec 32 := Scalar.addi c0_i32_13 c200_i32_14
  let c1_i32_15 : BitVec 32 := 1#32
  ⟨c0_i32_13, v27, c1_i32_15⟩
@[reducible] def k0_t3_loop : Scf.Loop 32 :=
  let c0_i32_25 : BitVec 32 := 0#32
  let c100_i32 : BitVec 32 := 100#32
  let v44 : BitVec 32 := Scalar.addi c0_i32_25 c100_i32
  let c1_i32_26 : BitVec 32 := 1#32
  ⟨c0_i32_25, v44, c1_i32_26⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x91x20096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x20096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x128 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S8x20000x1x4 : Shape := ⟨4, ![8, 20000, 1, 4]⟩
abbrev S8x20000x91 : Shape := ⟨3, ![8, 20000, 91]⟩
abbrev S8x20000x4 : Shape := ⟨3, ![8, 20000, 4]⟩
abbrev S8x91x20000 : Shape := ⟨3, ![8, 91, 20000]⟩
abbrev S_ : Shape := ⟨0, ![]⟩
abbrev S8x91x200 : Shape := ⟨3, ![8, 91, 200]⟩
abbrev S8x91x200x1 : Shape := ⟨4, ![8, 91, 200, 1]⟩
abbrev S8x91x200x4 : Shape := ⟨4, ![8, 91, 200, 4]⟩
abbrev S8x91x1x200 : Shape := ⟨4, ![8, 91, 1, 200]⟩
abbrev S8x91x200x200 : Shape := ⟨4, ![8, 91, 200, 200]⟩
abbrev S200 : Shape := ⟨1, ![200]⟩
abbrev S8x91x1 : Shape := ⟨3, ![8, 91, 1]⟩
abbrev S1x1x200 : Shape := ⟨3, ![1, 1, 200]⟩
abbrev S8x91x100 : Shape := ⟨3, ![8, 91, 100]⟩
abbrev S8x91x100x1 : Shape := ⟨4, ![8, 91, 100, 1]⟩
abbrev S8x91x100x4 : Shape := ⟨4, ![8, 91, 100, 4]⟩
abbrev S91 : Shape := ⟨1, ![91]⟩
abbrev S91x1 : Shape := ⟨2, ![91, 1]⟩
abbrev S91x100 : Shape := ⟨2, ![91, 100]⟩
abbrev S8x9100 : Shape := ⟨2, ![8, 9100]⟩
abbrev S8x9100x4 : Shape := ⟨3, ![8, 9100, 4]⟩
abbrev S9100 : Shape := ⟨1, ![9100]⟩
abbrev S8x100 : Shape := ⟨2, ![8, 100]⟩
abbrev S8x100x1 : Shape := ⟨3, ![8, 100, 1]⟩
abbrev S8x100x4 : Shape := ⟨3, ![8, 100, 4]⟩
abbrev S8 : Shape := ⟨1, ![8]⟩

abbrev nBuf : Space → Nat
  | .hbm => 183
  | .vmem => 0
  | .smem => 0
  | _ => 0

abbrev hbmTy0_0 (i : Nat) : BufTy := match i % 128 with
  | 0 => ⟨S8x20000x1x4, .f32⟩
  | 1 => ⟨S8x20000x91, .f32⟩
  | 2 => ⟨S8x20000x4, .f32⟩
  | 3 => ⟨S8x91x20000, .f32⟩
  | 4 => ⟨S_, .f32⟩
  | 5 => ⟨S8x91x20000, .f32⟩
  | 6 => ⟨S8x91x20000, .i1⟩
  | 7 => ⟨S_, .f32⟩
  | 8 => ⟨S_, .f32⟩
  | 9 => ⟨S8x91x20000, .f32⟩
  | 10 => ⟨S8x91x20000, .f32⟩
  | 11 => ⟨S8x91x200, .f32⟩
  | 12 => ⟨S8x91x200, .i32⟩
  | 13 => ⟨S_, .i32⟩
  | 14 => ⟨S8x91x200, .i32⟩
  | 15 => ⟨S8x91x200, .i1⟩
  | 16 => ⟨S_, .i32⟩
  | 17 => ⟨S8x91x200, .i32⟩
  | 18 => ⟨S8x91x200, .i32⟩
  | 19 => ⟨S8x91x200, .i32⟩
  | 20 => ⟨S8x91x200x1, .i32⟩
  | 21 => ⟨S8x91x200x4, .f32⟩
  | 22 => ⟨S8x91x200x1, .f32⟩
  | 23 => ⟨S8x91x200, .f32⟩
  | 24 => ⟨S8x91x200x1, .f32⟩
  | 25 => ⟨S8x91x200, .f32⟩
  | 26 => ⟨S8x91x200x1, .f32⟩
  | 27 => ⟨S8x91x200, .f32⟩
  | 28 => ⟨S8x91x200x1, .f32⟩
  | 29 => ⟨S8x91x200, .f32⟩
  | 30 => ⟨S8x91x200, .f32⟩
  | 31 => ⟨S8x91x200, .f32⟩
  | 32 => ⟨S8x91x200, .f32⟩
  | 33 => ⟨S8x91x200x1, .f32⟩
  | 34 => ⟨S8x91x1x200, .f32⟩
  | 35 => ⟨S8x91x200x200, .f32⟩
  | 36 => ⟨S8x91x200x200, .f32⟩
  | 37 => ⟨S8x91x200x200, .f32⟩
  | 38 => ⟨S8x91x200x1, .f32⟩
  | 39 => ⟨S8x91x1x200, .f32⟩
  | 40 => ⟨S8x91x200x200, .f32⟩
  | 41 => ⟨S8x91x200x200, .f32⟩
  | 42 => ⟨S8x91x200x200, .f32⟩
  | 43 => ⟨S8x91x200x1, .f32⟩
  | 44 => ⟨S8x91x1x200, .f32⟩
  | 45 => ⟨S8x91x200x200, .f32⟩
  | 46 => ⟨S8x91x200x200, .f32⟩
  | 47 => ⟨S8x91x200x200, .f32⟩
  | 48 => ⟨S8x91x200x1, .f32⟩
  | 49 => ⟨S8x91x1x200, .f32⟩
  | 50 => ⟨S8x91x200x200, .f32⟩
  | 51 => ⟨S8x91x200x200, .f32⟩
  | 52 => ⟨S8x91x200x200, .f32⟩
  | 53 => ⟨S8x91x200x200, .f32⟩
  | 54 => ⟨S_, .f32⟩
  | 55 => ⟨S8x91x200x200, .f32⟩
  | 56 => ⟨S8x91x200x200, .f32⟩
  | 57 => ⟨S8x91x200x200, .f32⟩
  | 58 => ⟨S_, .f32⟩
  | 59 => ⟨S8x91x200x200, .f32⟩
  | 60 => ⟨S8x91x200x200, .f32⟩
  | 61 => ⟨S8x91x200x200, .f32⟩
  | 62 => ⟨S8x91x200x1, .f32⟩
  | 63 => ⟨S8x91x1x200, .f32⟩
  | 64 => ⟨S8x91x200x200, .f32⟩
  | 65 => ⟨S8x91x200x200, .f32⟩
  | 66 => ⟨S8x91x200x200, .f32⟩
  | 67 => ⟨S8x91x200x200, .f32⟩
  | 68 => ⟨S_, .f32⟩
  | 69 => ⟨S8x91x200x200, .f32⟩
  | 70 => ⟨S8x91x200x200, .f32⟩
  | 71 => ⟨S8x91x200x200, .f32⟩
  | 72 => ⟨S200, .i32⟩
  | 73 => ⟨S_, .f32⟩
  | 74 => ⟨S8x91x200, .f32⟩
  | 75 => ⟨S8x91x200, .i1⟩
  | 76 => ⟨S_, .i32⟩
  | 77 => ⟨S_, .i32⟩
  | 78 => ⟨S8x91x200x200, .f32⟩
  | 79 => ⟨S200, .i32⟩
  | 80 => ⟨S_, .i32⟩
  | 81 => ⟨S_, .i32⟩
  | 82 => ⟨S8x91x200, .i1⟩
  | 83 => ⟨S_, .i32⟩
  | 84 => ⟨S_, .i1⟩
  | 85 => ⟨S_, .i32⟩
  | 86 => ⟨S_, .i32⟩
  | 87 => ⟨S_, .i32⟩
  | 88 => ⟨S_, .i1⟩
  | 89 => ⟨S_, .i32⟩
  | 90 => ⟨S_, .i32⟩
  | 91 => ⟨S_, .i32⟩
  | 92 => ⟨S_, .i32⟩
  | 93 => ⟨S_, .i32⟩
  | 94 => ⟨S_, .i32⟩
  | 95 => ⟨S_, .i32⟩
  | 96 => ⟨S8x91x1x200, .f32⟩
  | 97 => ⟨S8x91x200, .f32⟩
  | 98 => ⟨S_, .i32⟩
  | 99 => ⟨S_, .i1⟩
  | 100 => ⟨S_, .i32⟩
  | 101 => ⟨S_, .i32⟩
  | 102 => ⟨S_, .i32⟩
  | 103 => ⟨S_, .i32⟩
  | 104 => ⟨S_, .i32⟩
  | 105 => ⟨S_, .i32⟩
  | 106 => ⟨S8x91x1, .i1⟩
  | 107 => ⟨S_, .f32⟩
  | 108 => ⟨S8x91x200, .f32⟩
  | 109 => ⟨S8x91x200, .i1⟩
  | 110 => ⟨S_, .i32⟩
  | 111 => ⟨S200, .i32⟩
  | 112 => ⟨S200, .i1⟩
  | 113 => ⟨S1x1x200, .i1⟩
  | 114 => ⟨S8x91x200, .i1⟩
  | 115 => ⟨S8x91x200, .i1⟩
  | 116 => ⟨S8x91x200, .i1⟩
  | 117 => ⟨S8x91x200, .i1⟩
  | 118 => ⟨S8x91x200, .i1⟩
  | 119 => ⟨S8x91x200, .i1⟩
  | 120 => ⟨S_, .i32⟩
  | 121 => ⟨S_, .i32⟩
  | 122 => ⟨S_, .f32⟩
  | 123 => ⟨S_, .f32⟩
  | 124 => ⟨S8x91x200, .f32⟩
  | 125 => ⟨S8x91x200, .f32⟩
  | 126 => ⟨S8x91x100, .f32⟩
  | 127 => ⟨S8x91x100, .i32⟩
  | _ => ⟨S8x20000x1x4, .f32⟩

abbrev hbmTy0_1 (i : Nat) : BufTy := match i % 128 with
  | 0 => ⟨S_, .i32⟩
  | 1 => ⟨S8x91x100, .i32⟩
  | 2 => ⟨S8x91x100, .i1⟩
  | 3 => ⟨S_, .i32⟩
  | 4 => ⟨S8x91x100, .i32⟩
  | 5 => ⟨S8x91x100, .i32⟩
  | 6 => ⟨S8x91x100, .i32⟩
  | 7 => ⟨S8x91x100x1, .i32⟩
  | 8 => ⟨S8x91x100x4, .f32⟩
  | 9 => ⟨S91, .i32⟩
  | 10 => ⟨S91x1, .i32⟩
  | 11 => ⟨S91x100, .i32⟩
  | 12 => ⟨S8x9100, .f32⟩
  | 13 => ⟨S8x9100x4, .f32⟩
  | 14 => ⟨S9100, .i32⟩
  | 15 => ⟨S8x100, .f32⟩
  | 16 => ⟨S8x100, .i32⟩
  | 17 => ⟨S_, .i32⟩
  | 18 => ⟨S8x100, .i32⟩
  | 19 => ⟨S8x100, .i1⟩
  | 20 => ⟨S_, .i32⟩
  | 21 => ⟨S8x100, .i32⟩
  | 22 => ⟨S8x100, .i32⟩
  | 23 => ⟨S8x100, .i32⟩
  | 24 => ⟨S8x100x1, .i32⟩
  | 25 => ⟨S8x100x4, .f32⟩
  | 26 => ⟨S_, .i32⟩
  | 27 => ⟨S8x100, .i32⟩
  | 28 => ⟨S8x100, .i1⟩
  | 29 => ⟨S_, .i32⟩
  | 30 => ⟨S8x100, .i32⟩
  | 31 => ⟨S8x100, .i32⟩
  | 32 => ⟨S8x100, .i32⟩
  | 33 => ⟨S8x100x1, .i32⟩
  | 34 => ⟨S8x100, .i32⟩
  | 35 => ⟨S_, .f32⟩
  | 36 => ⟨S8x100, .f32⟩
  | 37 => ⟨S8x100, .i1⟩
  | 38 => ⟨S8x100, .i32⟩
  | 39 => ⟨S_, .i32⟩
  | 40 => ⟨S8, .i32⟩
  | 41 => ⟨S_, .f32⟩
  | 42 => ⟨S_, .f32⟩
  | 43 => ⟨S8x100, .f32⟩
  | 44 => ⟨S8x100, .f32⟩
  | 45 => ⟨S8x100x1, .i1⟩
  | 46 => ⟨S_, .f32⟩
  | 47 => ⟨S_, .f32⟩
  | 48 => ⟨S8x100x4, .i1⟩
  | 49 => ⟨S8x100x4, .f32⟩
  | 50 => ⟨S8x100x4, .f32⟩
  | 51 => ⟨S_, .i32⟩
  | 52 => ⟨S_, .i32⟩
  | 53 => ⟨S8x100, .i32⟩
  | 54 => ⟨S8x100, .i32⟩
  | _ => ⟨S8x20000x1x4, .f32⟩

abbrev hbmTy (i : Nat) : BufTy := match i / 128 with
  | 0 => hbmTy0_0 i
  | 1 => hbmTy0_1 i
  | _ => ⟨S8x20000x1x4, .f32⟩

abbrev bufTy : (tb : Table) → Fin (tcTables nBuf tb) → BufTy
  | .hbm, ⟨i, _⟩ => hbmTy i
  | _, _ => ⟨S8x20000x1x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_v4 : Ref sig .tc := ⟨.hbm, 10, rfl⟩
abbrev main_values : Ref sig .tc := ⟨.hbm, 11, rfl⟩
abbrev main_indices : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_2 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_3 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_4 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_5 : Ref sig .tc := ⟨.hbm, 73, rfl⟩
abbrev main_v60 : Ref sig .tc := ⟨.hbm, 74, rfl⟩
abbrev main_v61 : Ref sig .tc := ⟨.hbm, 75, rfl⟩
abbrev main_c_6 : Ref sig .tc := ⟨.hbm, 76, rfl⟩
abbrev main_c_7 : Ref sig .tc := ⟨.hbm, 77, rfl⟩
abbrev main_v62_0 : Ref sig .tc := ⟨.hbm, 78, rfl⟩
abbrev main_v62_1 : Ref sig .tc := ⟨.hbm, 79, rfl⟩
abbrev main_v62_2 : Ref sig .tc := ⟨.hbm, 80, rfl⟩
abbrev main_v62_3 : Ref sig .tc := ⟨.hbm, 81, rfl⟩
abbrev main_v62_4 : Ref sig .tc := ⟨.hbm, 82, rfl⟩
abbrev main_while0c_c_28 : Ref sig .tc := ⟨.hbm, 83, rfl⟩
abbrev main_while0c_v99 : Ref sig .tc := ⟨.hbm, 84, rfl⟩
abbrev main_while0b_c_28 : Ref sig .tc := ⟨.hbm, 85, rfl⟩
abbrev main_while0b_v99 : Ref sig .tc := ⟨.hbm, 86, rfl⟩
abbrev main_while0b_call1_c : Ref sig .tc := ⟨.hbm, 87, rfl⟩
abbrev main_while0b_call1_v0 : Ref sig .tc := ⟨.hbm, 88, rfl⟩
abbrev main_while0b_call1_v1 : Ref sig .tc := ⟨.hbm, 89, rfl⟩
abbrev main_while0b_call1_c_0 : Ref sig .tc := ⟨.hbm, 90, rfl⟩
abbrev main_while0b_call1_v2 : Ref sig .tc := ⟨.hbm, 91, rfl⟩
abbrev main_while0b_call1_v3 : Ref sig .tc := ⟨.hbm, 92, rfl⟩
abbrev main_while0b_call1_c_1 : Ref sig .tc := ⟨.hbm, 93, rfl⟩
abbrev main_while0b_call1_c_2 : Ref sig .tc := ⟨.hbm, 94, rfl⟩
abbrev main_while0b_call1_c_3 : Ref sig .tc := ⟨.hbm, 95, rfl⟩
abbrev main_while0b_call1_v4 : Ref sig .tc := ⟨.hbm, 96, rfl⟩
abbrev main_while0b_v100 : Ref sig .tc := ⟨.hbm, 97, rfl⟩
abbrev main_while0b_call2_c : Ref sig .tc := ⟨.hbm, 98, rfl⟩
abbrev main_while0b_call2_v0 : Ref sig .tc := ⟨.hbm, 99, rfl⟩
abbrev main_while0b_call2_v1 : Ref sig .tc := ⟨.hbm, 100, rfl⟩
abbrev main_while0b_call2_c_0 : Ref sig .tc := ⟨.hbm, 101, rfl⟩
abbrev main_while0b_call2_v2 : Ref sig .tc := ⟨.hbm, 102, rfl⟩
abbrev main_while0b_call2_v3 : Ref sig .tc := ⟨.hbm, 103, rfl⟩
abbrev main_while0b_call2_c_1 : Ref sig .tc := ⟨.hbm, 104, rfl⟩
abbrev main_while0b_call2_c_2 : Ref sig .tc := ⟨.hbm, 105, rfl⟩
abbrev main_while0b_v101 : Ref sig .tc := ⟨.hbm, 106, rfl⟩
abbrev main_while0b_cst_29 : Ref sig .tc := ⟨.hbm, 107, rfl⟩
abbrev main_while0b_v102 : Ref sig .tc := ⟨.hbm, 108, rfl⟩
abbrev main_while0b_v103 : Ref sig .tc := ⟨.hbm, 109, rfl⟩
abbrev main_while0b_v104 : Ref sig .tc := ⟨.hbm, 110, rfl⟩
abbrev main_while0b_v105 : Ref sig .tc := ⟨.hbm, 111, rfl⟩
abbrev main_while0b_v106 : Ref sig .tc := ⟨.hbm, 112, rfl⟩
abbrev main_while0b_v107 : Ref sig .tc := ⟨.hbm, 113, rfl⟩
abbrev main_while0b_v108 : Ref sig .tc := ⟨.hbm, 114, rfl⟩
abbrev main_while0b_v109 : Ref sig .tc := ⟨.hbm, 115, rfl⟩
abbrev main_while0b_v110 : Ref sig .tc := ⟨.hbm, 116, rfl⟩
abbrev main_while0b_v111 : Ref sig .tc := ⟨.hbm, 117, rfl⟩
abbrev main_while0b_v112 : Ref sig .tc := ⟨.hbm, 118, rfl⟩
abbrev main_while0b_v113 : Ref sig .tc := ⟨.hbm, 119, rfl⟩
abbrev main_while0b_c_30 : Ref sig .tc := ⟨.hbm, 120, rfl⟩
abbrev main_while0b_v114 : Ref sig .tc := ⟨.hbm, 121, rfl⟩
abbrev main_cst_8 : Ref sig .tc := ⟨.hbm, 122, rfl⟩
abbrev main_call3_v0 : Ref sig .tc := ⟨.hbm, 123, rfl⟩
abbrev main_call3_v1 : Ref sig .tc := ⟨.hbm, 124, rfl⟩
abbrev main_v63 : Ref sig .tc := ⟨.hbm, 125, rfl⟩
abbrev main_values_9 : Ref sig .tc := ⟨.hbm, 126, rfl⟩
abbrev main_indices_10 : Ref sig .tc := ⟨.hbm, 127, rfl⟩
abbrev main_c_11 : Ref sig .tc := ⟨.hbm, 128, rfl⟩
abbrev main_v64 : Ref sig .tc := ⟨.hbm, 129, rfl⟩
abbrev main_v65 : Ref sig .tc := ⟨.hbm, 130, rfl⟩
abbrev main_c_12 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_values_13 : Ref sig .tc := ⟨.hbm, 143, rfl⟩
abbrev main_indices_14 : Ref sig .tc := ⟨.hbm, 144, rfl⟩
abbrev main_c_15 : Ref sig .tc := ⟨.hbm, 145, rfl⟩
abbrev main_v77 : Ref sig .tc := ⟨.hbm, 146, rfl⟩
abbrev main_v78 : Ref sig .tc := ⟨.hbm, 147, rfl⟩
abbrev main_c_16 : Ref sig .tc := ⟨.hbm, 148, rfl⟩
abbrev main_v79 : Ref sig .tc := ⟨.hbm, 149, rfl⟩
abbrev main_v80 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩
abbrev main_c_17 : Ref sig .tc := ⟨.hbm, 154, rfl⟩
abbrev main_v84 : Ref sig .tc := ⟨.hbm, 155, rfl⟩
abbrev main_v85 : Ref sig .tc := ⟨.hbm, 156, rfl⟩
abbrev main_c_18 : Ref sig .tc := ⟨.hbm, 157, rfl⟩
abbrev main_v86 : Ref sig .tc := ⟨.hbm, 158, rfl⟩
abbrev main_v87 : Ref sig .tc := ⟨.hbm, 159, rfl⟩
abbrev main_v88 : Ref sig .tc := ⟨.hbm, 160, rfl⟩
abbrev main_v89 : Ref sig .tc := ⟨.hbm, 161, rfl⟩
abbrev main_v90 : Ref sig .tc := ⟨.hbm, 162, rfl⟩
abbrev main_cst_19 : Ref sig .tc := ⟨.hbm, 163, rfl⟩
abbrev main_v91 : Ref sig .tc := ⟨.hbm, 164, rfl⟩
abbrev main_v92 : Ref sig .tc := ⟨.hbm, 165, rfl⟩
abbrev main_v93 : Ref sig .tc := ⟨.hbm, 166, rfl⟩
abbrev main_c_20 : Ref sig .tc := ⟨.hbm, 167, rfl⟩
abbrev main_v94 : Ref sig .tc := ⟨.hbm, 168, rfl⟩
abbrev main_cst_21 : Ref sig .tc := ⟨.hbm, 169, rfl⟩
abbrev main_call4_v0 : Ref sig .tc := ⟨.hbm, 170, rfl⟩
abbrev main_call4_v1 : Ref sig .tc := ⟨.hbm, 171, rfl⟩
abbrev main_v95 : Ref sig .tc := ⟨.hbm, 172, rfl⟩
abbrev main_v96 : Ref sig .tc := ⟨.hbm, 173, rfl⟩
abbrev main_cst_22 : Ref sig .tc := ⟨.hbm, 174, rfl⟩
abbrev main_call5_v0 : Ref sig .tc := ⟨.hbm, 175, rfl⟩
abbrev main_call5_v1 : Ref sig .tc := ⟨.hbm, 176, rfl⟩
abbrev main_call5_v2 : Ref sig .tc := ⟨.hbm, 177, rfl⟩
abbrev main_v97 : Ref sig .tc := ⟨.hbm, 178, rfl⟩
abbrev main_c_23 : Ref sig .tc := ⟨.hbm, 179, rfl⟩
abbrev main_call6_v0 : Ref sig .tc := ⟨.hbm, 180, rfl⟩
abbrev main_call6_v1 : Ref sig .tc := ⟨.hbm, 181, rfl⟩
abbrev main_v98 : Ref sig .tc := ⟨.hbm, 182, rfl⟩

abbrev nD : Nat := 1
abbrev τ : Topo := Topo.v7x

variable {F : FTy → Type} [FloatOps F]

abbrev main_while0_count : Scf.Loop 32 := ⟨0#32, 200#32, 1#32⟩
-- ==== Proof.Trips.lean ====
/-
  Hand-written. A counted loop whose trips touch no memory is the return of the fold of its trips, and the fold is a
  sequence: what is carried after `k` trips, stepped from `k` to `k + 1`.
-/
module

public import Idealize.ShloMosaic.Lib.Scf

@[expose] public section

namespace Cert.Hand

open Idealize.ShloMosaic Idealize.SL.Sem

universe u
variable {σ : Type} {n : ℕ}

/-- What is carried after the first `k` trips of `g`, from `init` (after all of them once `k` is at least `n`). -/
def tripAt (g : Fin n → σ → σ) (init : σ) : ℕ → σ
  | 0 => init
  | k + 1 => if h : k < n then g ⟨k, h⟩ (tripAt g init k) else tripAt g init k

/-- What is carried after all trips. -/
def tripFold (g : Fin n → σ → σ) (init : σ) : σ := tripAt g init n

/-- Before the first trip it is the initial value. -/
theorem tripAt_zero (g : Fin n → σ → σ) (init : σ) : tripAt g init 0 = init := rfl

/-- One trip more. -/
theorem tripAt_succ (g : Fin n → σ → σ) (init : σ) (k : ℕ) (h : k < n) : tripAt g init (k + 1) = g ⟨k, h⟩ (tripAt g init k) := by
  rw [tripAt, dif_pos h]

/-- A property of the carried value at every trip count, by induction on the trips. -/
theorem tripAt_induct (g : Fin n → σ → σ) (init : σ) (P : ℕ → σ → Prop) (h0 : P 0 init)
    (hs : ∀ (k : Fin n) a, P k a → P (k + 1) (g k a)) : ∀ k, k ≤ n → P k (tripAt g init k)
  | 0, _ => h0
  | k + 1, h => by
    rw [tripAt_succ g init k (by omega)]
    exact hs ⟨k, by omega⟩ _ (tripAt_induct g init P h0 hs k (by omega))

/-- The property after all the trips. -/
theorem tripFold_induct (g : Fin n → σ → σ) (init : σ) (P : ℕ → σ → Prop) (h0 : P 0 init)
    (hs : ∀ (k : Fin n) a, P k a → P (k + 1) (g k a)) : P n (tripFold g init) :=
  tripAt_induct g init P h0 hs n le_rfl

/-- The fold over the list of the trips is the sequence's end. -/
theorem foldl_finRange_eq (g : Fin n → σ → σ) (init : σ) : (List.finRange n).foldl (fun a k => g k a) init = tripFold g init := by
  have key : ∀ k (hk : k ≤ n), ((List.finRange k).foldl (fun a j => g (Fin.castLE hk j) a) init) = tripAt g init k := by
    intro k
    induction k with
    | zero => intro _; rfl
    | succ k ih =>
      intro hk
      rw [List.finRange_succ_last, List.foldl_append, List.foldl_map, tripAt_succ g init k (by omega)]
      have := ih (by omega)
      simp only [List.foldl_cons, List.foldl_nil]
      rw [← this]
      rfl
  have := key n le_rfl
  simpa [tripFold] using this

/-- Trips in order, each a return, return the fold. -/
theorem forFrom_pure {E : Type → Type u} (body : Fin n → σ → Prog E σ) (g : Fin n → σ → σ)
    (h : ∀ k a, body k a = pure (g k a)) (l : List (Fin n)) :
    ∀ a, Scf.forFrom body l a = pure (l.foldl (fun a k => g k a) a) := by
  induction l with
  | nil => intro a; rfl
  | cons k l ih =>
    intro a
    rw [Scf.forFrom_cons, h]
    exact ih (g k a)

/-- A counted loop whose every trip is a return is the return of the fold of its trips. -/
theorem loop_pure {E : Type → Type u} {w : ℕ} (l : Scf.Loop w) (hok : l.OK) (init : σ) (body : Fin l.trips → σ → Prog E σ)
    (g : Fin l.trips → σ → σ) (h : ∀ k a, body k a = pure (g k a)) :
    Scf.Loop.for l hok init body = pure (tripFold g init) := by
  rw [Scf.Loop.for, Scf.for_eq, forFrom_pure body g h, foldl_finRange_eq]

end Cert.Hand
-- ==== Proof.KernelIdealRun.lean ====
/-
  Hand-written. The kernel's body and its launch, for any interpretation `F` of the floats.

  I. The three counted loops of the body neither read nor write memory, so each is the return of a fold over its trips
  (`loop_pure`); with the folds in place of the loops the body is a straight line of two loads and seven stores
  (`body_eq`), whose stored values are functions of the two loaded blocks (`out2` … `out8`).
  II. The body's triple (`kernelRun`), the pipeline's proof data (`dats`), the body obligation, the run (`run_main`)
  and the frame read off it (`frame`).
-/
module

public import proofs.«01_k».proof.Proof.Gen.KernelIdeal.Frame
public import proofs.«01_k».proof.Proof.Gen.KernelIdeal.Skeleton
public import proofs.«01_k».proof.Proof.Trips
public import Idealize.ShloMosaic.Lib.Tactic
public import Idealize.ShloMosaic.Lib.VecWindow
public import Idealize.ShloMosaic.Lib.Pipeline.FrameSuffix

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)
open Cert.Hand (tripFold loop_pure)

variable {F : FTy → Type} [FloatOps F]

local notation "𝕄" => MT nD τ sig Unit (Elt F) ℕ (UR sig nD τ) ℕ

/-- No variant is used: every loop of the kernel is counted. -/
abbrev 𝒱₀ : Variants := Variants.none

/-! ## The three loops as folds -/

/-- What the selection loop carries: the scores still in the race, and per class the picked scores and boxes. -/
abbrev St1 (F : FTy → Type) : Type :=
  FVec F S91x20096 .f32 × FVec F S91x256 .f32 × FVec F S91x256 .f32 × FVec F S91x256 .f32 × FVec F S91x256 .f32 × FVec F S91x256 .f32

/-- What the merge loop carries: the scores still in the race, and the merged scores, boxes and classes. -/
abbrev St3 (F : FTy → Type) : Type :=
  FVec F S91x256 .f32 × FVec F S1x128 .f32 × FVec F S1x128 .f32 × FVec F S1x128 .f32 × FVec F S1x128 .f32 × FVec F S1x128 .f32 × IVec S1x128 32

/-- One trip of the selection loop. -/
def g1 (v6 : Vec F S1x4x20096 .f32) (k : Fin k0_t1_loop.trips) (a : St1 F) : St1 F :=
  (k0_pay32 a.1, k0_pay34 k a.1 a.2.1, k0_pay35 v6 k a.1 a.2.2.1, k0_pay36 v6 k a.1 a.2.2.2.1,
    k0_pay37 v6 k a.1 a.2.2.2.2.1, k0_pay38 v6 k a.1 a.2.2.2.2.2)

/-- The slot numbers of the kernel's per-class rows. -/
abbrev slotIota : IVec S91x256 32 := iota .tc S91x256 32 [1] iota_S91x256_d1_w32
/-- The class numbers of the kernel's per-class rows. -/
abbrev classIota : IVec S91x256 32 := iota .tc S91x256 32 [0] iota_S91x256_d0_w32

/-- One trip of the suppression loop over the picked boxes `y1`, `x1`, `y2`, `x2`. -/
def g2 (v13 : IVec S91x256 32) (y1 x1 y2 x2 : FVec F S91x256 .f32) (k : Fin k0_t2_loop.trips) (a : IVec S91x256 32) : IVec S91x256 32 :=
  k0_pay41 a (Scf.iv 0#32 1#32 k) (k0_pay11 v13 0#32 1#32 k a) (k0_pay12 v13 y1 x1 y2 x2 0#32 1#32 k)
    (k0_pay13 v13 y1 x1 y2 x2 (k0_pay39 y1 x1 y2 x2) 0#32 1#32 k) (Scalar.ofBits .f32 0x322BCC77#32)

/-- The flat number of a slot: 256 times its class plus its slot. -/
abbrev flatIota : IVec S91x256 32 := k0_pay43 slotIota classIota 256#32

/-- The word a merge trip picks: the smallest flat number of a greatest score. -/
def pickWord (fl : IVec S91x256 32) (a : FVec F S91x256 .f32) : BitVec 32 := extractAt ![0, 0, 0] (k0_pay15 fl a) inpos_S1x1x1_p0_0_0

/-- One trip of the merge loop over the picked boxes `y1`, `x1`, `y2`, `x2`. -/
def g3 (fl : IVec S91x256 32) (y1 x1 y2 x2 : FVec F S91x256 .f32) (k : Fin k0_t3_loop.trips) (a : St3 F) : St3 F :=
  (k0_pay50 a.1 (k0_pay16 fl a.1), k0_pay52 a.2.1 (Scf.iv 0#32 1#32 k) (k0_pay14 a.1),
    k0_pay53 a.2.2.1 (Scf.iv 0#32 1#32 k) (k0_pay18 y1 fl a.1),
    k0_pay54 a.2.2.2.1 (Scf.iv 0#32 1#32 k) (k0_pay19 x1 fl a.1),
    k0_pay55 a.2.2.2.2.1 (Scf.iv 0#32 1#32 k) (k0_pay20 y2 fl a.1),
    k0_pay56 a.2.2.2.2.2.1 (Scf.iv 0#32 1#32 k) (k0_pay21 x2 fl a.1),
    k0_pay57 a.2.2.2.2.2.2 (Scf.iv 0#32 1#32 k) (pickWord fl a.1) 256#32 (Scalar.divsi (pickWord fl a.1) 256#32)
      (Scalar.subi (Scalar.extui (Scalar.cmpi .sgt (pickWord fl a.1) 0#32) : BitVec 32) (Scalar.extui (Scalar.cmpi .slt (pickWord fl a.1) 0#32) : BitVec 32))
      (Scalar.subi (Scalar.extui (Scalar.cmpi .sgt 256#32 0#32) : BitVec 32) (Scalar.extui (Scalar.cmpi .slt 256#32 0#32) : BitVec 32)))

/-- What the selection loop starts from. -/
def init1 (x0 : Vec F S1x91x20096 .f32) : St1 F :=
  (k0_pay22 x0, k0_pay24 (F := F), k0_pay25 (F := F), k0_pay26 (F := F), k0_pay27 (F := F), k0_pay28 (F := F))
/-- What the merge loop starts from, the kept scores `fs`. -/
def init3 (fs : FVec F S91x256 .f32) : St3 F :=
  (fs, k0_pay44 (F := F), k0_pay45 (F := F), k0_pay46 (F := F), k0_pay47 (F := F), k0_pay48 (F := F), k0_pay49)

/-- The selection loop's result, from the score block `x0` and the box block `x1`. -/
def sel (x0 : Vec F S1x91x20096 .f32) (x1 : Vec F S1x4x20096 .f32) : St1 F := tripFold (g1 x1) (init1 x0)
/-- The suppression loop's result from a selection: 1 where a slot is kept. -/
def keepOf (s : St1 F) : IVec S91x256 32 := tripFold (g2 slotIota s.2.2.1 s.2.2.2.1 s.2.2.2.2.1 s.2.2.2.2.2) (k0_pay40 s.2.1)
/-- The merge loop's result from a selection. -/
def mrgOf (s : St1 F) : St3 F :=
  tripFold (g3 flatIota s.2.2.1 s.2.2.2.1 s.2.2.2.2.1 s.2.2.2.2.2) (init3 (k0_pay42 s.2.1 (keepOf s)))
/-- The merge loop's result, from the two blocks. -/
def mrg (x0 : Vec F S1x91x20096 .f32) (x1 : Vec F S1x4x20096 .f32) : St3 F := mrgOf (sel x0 x1)

/-! ## The stored values -/

/-- The stored scores. -/
def out2 (x0 : Vec F S1x91x20096 .f32) (x1 : Vec F S1x4x20096 .f32) : Vec F S1x1x128 .f32 := k0_pay60 (mrg x0 x1).2.1
/-- The stored first coordinates. -/
def out3 (x0 : Vec F S1x91x20096 .f32) (x1 : Vec F S1x4x20096 .f32) : Vec F S1x1x128 .f32 := k0_pay61 (mrg x0 x1).2.1 (mrg x0 x1).2.2.1
/-- The stored second coordinates. -/
def out4 (x0 : Vec F S1x91x20096 .f32) (x1 : Vec F S1x4x20096 .f32) : Vec F S1x1x128 .f32 :=
  k0_pay1 (k0_pay62 (mrg x0 x1).2.1 (mrg x0 x1).2.2.2.1)
/-- The stored third coordinates. -/
def out5 (x0 : Vec F S1x91x20096 .f32) (x1 : Vec F S1x4x20096 .f32) : Vec F S1x1x128 .f32 :=
  k0_pay2 (mrg x0 x1).2.2.2.2.1 (k0_pay58 (mrg x0 x1).2.1)
/-- The stored fourth coordinates. -/
def out6 (x0 : Vec F S1x91x20096 .f32) (x1 : Vec F S1x4x20096 .f32) : Vec F S1x1x128 .f32 :=
  k0_pay3 (mrg x0 x1).2.2.2.2.2.1 (k0_pay58 (mrg x0 x1).2.1)
/-- The stored classes. -/
def out7 (x0 : Vec F S1x91x20096 .f32) (x1 : Vec F S1x4x20096 .f32) : Vec F S1x1x128 .i32 :=
  k0_pay4 (mrg x0 x1).2.2.2.2.2.2 (k0_pay58 (mrg x0 x1).2.1)
/-- The stored count. -/
def out8 (x0 : Vec F S1x91x20096 .f32) (x1 : Vec F S1x4x20096 .f32) : Vec F S1x1x1 .i32 := k0_pay59 (mrg x0 x1).2.1

/-! ## The body as a straight line -/

section Body
variable (i : grid0.Coords) (arg1 : Memref sig .tc .vmem S1x91x20096 .f32) (harg1 : arg1.IsWhole) (arg2 : Memref sig .tc .vmem S1x4x20096 .f32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .i32) (harg8 : arg8.IsWhole) (arg9 : Memref sig .tc .vmem S1x1x1 .i32) (harg9 : arg9.IsWhole)

/-- The body with its loops folded: two loads, then per result a load that nothing reads and the store. -/
def bodyFlat : Prog (TpuEff nD τ sig (Elt F) Λ₀ .tc) PUnit := do
  let x0 : Vec F S1x91x20096 .f32 ← Prog.lift (.load arg1 (Rect.unit (s := S1x91x20096) ![0, 0, 0] S1x91x20096.size inb_S1x91x20096_S1x91x20096_0_0_0).toLoadRect (View.loadsAt_vmem h_S1x91x20096))
  let x1 : Vec F S1x4x20096 .f32 ← Prog.lift (.load arg2 (Rect.unit (s := S1x4x20096) ![0, 0, 0] S1x4x20096.size inb_S1x4x20096_S1x4x20096_0_0_0).toLoadRect (View.loadsAt_vmem h_S1x4x20096))
  let _ : Vec F S1x1x1 .i32 ← Prog.lift (.load arg9 (Rect.unit (s := S1x1x1) ![0, 0, 0] S1x1x1.size inb_S1x1x1_S1x1x1_0_0_0).toLoadRect (View.loadsAt_vmem h_S1x1x1))
  Prog.lift (.store arg9 (Rect.unit (s := S1x1x1) ![0, 0, 0] S1x1x1.size inb_S1x1x1_S1x1x1_0_0_0) (out8 x0 x1) Finset.univ (View.stores_vmem_bits_univ h_S1x1x1 rfl) (.inl rfl))
  let _ : Vec F S1x1x128 .f32 ← Prog.lift (.load arg3 (Rect.unit (s := S1x1x128) ![0, 0, 0] S1x1x128.size inb_S1x1x128_S1x1x128_0_0_0).toLoadRect (View.loadsAt_vmem h_S1x1x128))
  Prog.lift (.store arg3 (Rect.unit (s := S1x1x128) ![0, 0, 0] S1x1x128.size inb_S1x1x128_S1x1x128_0_0_0) (out2 x0 x1) Finset.univ (View.stores_vmem_bits_univ h_S1x1x128 rfl) (.inl rfl))
  let _ : Vec F S1x1x128 .f32 ← Prog.lift (.load arg4 (Rect.unit (s := S1x1x128) ![0, 0, 0] S1x1x128.size inb_S1x1x128_S1x1x128_0_0_0).toLoadRect (View.loadsAt_vmem h_S1x1x128))
  Prog.lift (.store arg4 (Rect.unit (s := S1x1x128) ![0, 0, 0] S1x1x128.size inb_S1x1x128_S1x1x128_0_0_0) (out3 x0 x1) Finset.univ (View.stores_vmem_bits_univ h_S1x1x128 rfl) (.inl rfl))
  let _ : Vec F S1x1x128 .f32 ← Prog.lift (.load arg5 (Rect.unit (s := S1x1x128) ![0, 0, 0] S1x1x128.size inb_S1x1x128_S1x1x128_0_0_0).toLoadRect (View.loadsAt_vmem h_S1x1x128))
  Prog.lift (.store arg5 (Rect.unit (s := S1x1x128) ![0, 0, 0] S1x1x128.size inb_S1x1x128_S1x1x128_0_0_0) (out4 x0 x1) Finset.univ (View.stores_vmem_bits_univ h_S1x1x128 rfl) (.inl rfl))
  let _ : Vec F S1x1x128 .f32 ← Prog.lift (.load arg6 (Rect.unit (s := S1x1x128) ![0, 0, 0] S1x1x128.size inb_S1x1x128_S1x1x128_0_0_0).toLoadRect (View.loadsAt_vmem h_S1x1x128))
  Prog.lift (.store arg6 (Rect.unit (s := S1x1x128) ![0, 0, 0] S1x1x128.size inb_S1x1x128_S1x1x128_0_0_0) (out5 x0 x1) Finset.univ (View.stores_vmem_bits_univ h_S1x1x128 rfl) (.inl rfl))
  let _ : Vec F S1x1x128 .f32 ← Prog.lift (.load arg7 (Rect.unit (s := S1x1x128) ![0, 0, 0] S1x1x128.size inb_S1x1x128_S1x1x128_0_0_0).toLoadRect (View.loadsAt_vmem h_S1x1x128))
  Prog.lift (.store arg7 (Rect.unit (s := S1x1x128) ![0, 0, 0] S1x1x128.size inb_S1x1x128_S1x1x128_0_0_0) (out6 x0 x1) Finset.univ (View.stores_vmem_bits_univ h_S1x1x128 rfl) (.inl rfl))
  let _ : Vec F S1x1x128 .i32 ← Prog.lift (.load arg8 (Rect.unit (s := S1x1x128) ![0, 0, 0] S1x1x128.size inb_S1x1x128_S1x1x128_0_0_0).toLoadRect (View.loadsAt_vmem h_S1x1x128))
  Prog.lift (.store arg8 (Rect.unit (s := S1x1x128) ![0, 0, 0] S1x1x128.size inb_S1x1x128_S1x1x128_0_0_0) (out7 x0 x1) Finset.univ (View.stores_vmem_bits_univ h_S1x1x128 rfl) (.inl rfl))
  pure ⟨⟩

/-- The selection loop is the return of its fold. -/
theorem t1_eq (v6 : Vec F S1x4x20096 .f32) (init : St1 F) :
    Scf.Loop.for k0_t1_loop k0_t1_ok init (k0_t1_body i arg1 harg1 arg2 harg2 arg3 harg3 arg4 harg4 arg5 harg5 arg6 harg6 arg7 harg7 arg8 harg8 arg9 harg9 v6) = pure (tripFold (g1 v6) init) :=
  loop_pure _ _ _ _ (g1 v6) fun _ _ => rfl
/-- The suppression loop is the return of its fold. -/
theorem t2_eq (v13 : IVec S91x256 32) (y1 x1 y2 x2 : FVec F S91x256 .f32) (init : IVec S91x256 32) :
    Scf.Loop.for k0_t2_loop k0_t2_ok init (k0_t2_body i arg1 harg1 arg2 harg2 arg3 harg3 arg4 harg4 arg5 harg5 arg6 harg6 arg7 harg7 arg8 harg8 arg9 harg9 v13 y1 x1 y2 x2) = pure (tripFold (g2 v13 y1 x1 y2 x2) init) :=
  loop_pure _ _ _ _ (g2 v13 y1 x1 y2 x2) fun _ _ => by
    unfold k0_t2_body; rw [k0_part1_eq_skeleton]; rfl
/-- The merge loop is the return of its fold. -/
theorem t3_eq (v13 v33 : IVec S91x256 32) (c : BitVec 32) (y1 x1 y2 x2 fs : FVec F S91x256 .f32) (init : St3 F) :
    Scf.Loop.for k0_t3_loop k0_t3_ok init (k0_t3_body i arg1 harg1 arg2 harg2 arg3 harg3 arg4 harg4 arg5 harg5 arg6 harg6 arg7 harg7 arg8 harg8 arg9 harg9 v13 y1 x1 y2 x2 fs v33 c) = pure (tripFold (g3 (k0_pay43 v13 v33 c) y1 x1 y2 x2) init) :=
  loop_pure _ _ _ _ (g3 (k0_pay43 v13 v33 c) y1 x1 y2 x2) fun _ _ => by
    unfold k0_t3_body; rw [k0_part2_eq_skeleton]; rfl

/-- The printed body is the straight line. -/
theorem body_eq : cc0__body (F := F) i arg1 harg1 arg2 harg2 arg3 harg3 arg4 harg4 arg5 harg5 arg6 harg6 arg7 harg7 arg8 harg8 arg9 harg9 = bodyFlat arg1 arg2 arg3 arg4 arg5 arg6 arg7 arg8 arg9 := by
  rw [cc0__body_eq_skeleton]
  unfold cc0__body_skel
  rw [k0_part3_eq_skeleton, k0_part4_eq_skeleton]
  unfold k0_part3_skel k0_part4_skel bodyFlat
  simp only [t1_eq, t2_eq, t3_eq]
  rfl
end Body

/-! ## The body's triple -/

/-- On whole staging memrefs, the scores' holding `x0`, the boxes' `x1` and the results' anything, the body runs to the
    continuation holding the inputs as they were and every result at its value. -/
theorem kernelRun (c : Dev nD) (i : grid0.Coords) (M0 : Memref sig .tc .vmem S1x91x20096 .f32) (h0 : M0.IsWhole) (M1 : Memref sig .tc .vmem S1x4x20096 .f32) (h1 : M1.IsWhole) (M2 : Memref sig .tc .vmem S1x1x128 .f32) (h2 : M2.IsWhole) (M3 : Memref sig .tc .vmem S1x1x128 .f32) (h3 : M3.IsWhole) (M4 : Memref sig .tc .vmem S1x1x128 .f32) (h4 : M4.IsWhole) (M5 : Memref sig .tc .vmem S1x1x128 .f32) (h5 : M5.IsWhole) (M6 : Memref sig .tc .vmem S1x1x128 .f32) (h6 : M6.IsWhole) (M7 : Memref sig .tc .vmem S1x1x128 .i32) (h7 : M7.IsWhole) (M8 : Memref sig .tc .vmem S1x1x1 .i32) (h8 : M8.IsWhole)
    (x0 : Vec F S1x91x20096 .f32) (x1 : Vec F S1x4x20096 .f32) (E : Set ℕ) (K : PUnit → sProp 𝕄) :
    iprop(owns (c : Thread nD τ) M0 fullShare x0 ∗ owns (c : Thread nD τ) M1 fullShare x1 ∗ (∃ d, owns (c : Thread nD τ) M2 fullShare d) ∗ (∃ d, owns (c : Thread nD τ) M3 fullShare d) ∗ (∃ d, owns (c : Thread nD τ) M4 fullShare d) ∗ (∃ d, owns (c : Thread nD τ) M5 fullShare d) ∗ (∃ d, owns (c : Thread nD τ) M6 fullShare d) ∗ (∃ d, owns (c : Thread nD τ) M7 fullShare d) ∗ (∃ d, owns (c : Thread nD τ) M8 fullShare d)
        ∗ (iprop(owns (c : Thread nD τ) M0 fullShare x0 ∗ owns (c : Thread nD τ) M1 fullShare x1 ∗ owns (c : Thread nD τ) M2 fullShare (out2 x0 x1) ∗ owns (c : Thread nD τ) M3 fullShare (out3 x0 x1) ∗ owns (c : Thread nD τ) M4 fullShare (out4 x0 x1) ∗ owns (c : Thread nD τ) M5 fullShare (out5 x0 x1) ∗ owns (c : Thread nD τ) M6 fullShare (out6 x0 x1) ∗ owns (c : Thread nD τ) M7 fullShare (out7 x0 x1) ∗ owns (c : Thread nD τ) M8 fullShare (out8 x0 x1)) -∗ K ⟨⟩))
      ⊢ wp frame (wpE (defs₀ (F := F)) 𝒱₀ c none) E (cc0__body i M0 h0 M1 h1 M2 h2 M3 h3 M4 h4 M5 h5 M6 h6 M7 h7 M8 h8) K := by
  rw [body_eq]
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, Hk⟩
  obtain rfl := h0.eq_unread hf0; obtain rfl := h1.eq_unread hf1
  sl_unfold [bodyFlat]
  sl_exec
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; swap; · iexact H2
    ipureintro; rw [View.read_writes_full, View.readAt_full, View.readAt_full, h0.read_unread, h1.read_unread]
  isplitl [H3]
  · iexists _; isplitr; swap; · iexact H3
    ipureintro; rw [View.read_writes_full, View.readAt_full, View.readAt_full, h0.read_unread, h1.read_unread]
  isplitl [H4]
  · iexists _; isplitr; swap; · iexact H4
    ipureintro; rw [View.read_writes_full, View.readAt_full, View.readAt_full, h0.read_unread, h1.read_unread]
  isplitl [H5]
  · iexists _; isplitr; swap; · iexact H5
    ipureintro; rw [View.read_writes_full, View.readAt_full, View.readAt_full, h0.read_unread, h1.read_unread]
  isplitl [H6]
  · iexists _; isplitr; swap; · iexact H6
    ipureintro; rw [View.read_writes_full, View.readAt_full, View.readAt_full, h0.read_unread, h1.read_unread]
  isplitl [H7]
  · iexists _; isplitr; swap; · iexact H7
    ipureintro; rw [View.read_writes_full, View.readAt_full, View.readAt_full, h0.read_unread, h1.read_unread]
  iexists _; isplitr; swap; · iexact H8
  ipureintro; rw [View.read_writes_full, View.readAt_full, View.readAt_full, h0.read_unread, h1.read_unread]

/-! ## The pipeline's proof data -/

variable (m : (ℓ : Loc nD τ sig) → Buf (Elt F) ℓ) (ρ : Dev nD → PrngReg)

/-- The arrays as the launch finds them; after the body at point `t` the two inputs at their blocks and each result at
    its value of those blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out2 (iblk m c 0 t) (iblk m c 1 t)
    | ⟨3, _⟩ => out3 (iblk m c 0 t) (iblk m c 1 t)
    | ⟨4, _⟩ => out4 (iblk m c 0 t) (iblk m c 1 t)
    | ⟨5, _⟩ => out5 (iblk m c 0 t) (iblk m c 1 t)
    | ⟨6, _⟩ => out6 (iblk m c 0 t) (iblk m c 1 t)
    | ⟨7, _⟩ => out7 (iblk m c 0 t) (iblk m c 1 t)
    | ⟨8, _⟩ => out8 (iblk m c 0 t) (iblk m c 1 t)
  Φ _ := Pipeline.ΦA spec0 c
  q _ := fullShare
  owed _ := 0

/-- The arrays of the proof data are those the launch finds. -/
theorem A_eq (c : Dev nD) (w : Fin cfg0.W) : (dats m 0 c).A w = V m c (Pipeline.arrRef spec0 w) := rfl
/-- Window 0 after the body. -/
theorem after0_0 (c : Dev nD) (t : Fin cfg0.N) : (dats m 0 c).after 0 t = iblk m c 0 t := by dsimp only [dats]
/-- Window 1 after the body. -/
theorem after0_1 (c : Dev nD) (t : Fin cfg0.N) : (dats m 0 c).after 1 t = iblk m c 1 t := by dsimp only [dats]
/-- Window 2 after the body. -/
theorem after0_2 (c : Dev nD) (t : Fin cfg0.N) : (dats m 0 c).after 2 t = out2 (iblk m c 0 t) (iblk m c 1 t) := by dsimp only [dats]
/-- Window 3 after the body. -/
theorem after0_3 (c : Dev nD) (t : Fin cfg0.N) : (dats m 0 c).after 3 t = out3 (iblk m c 0 t) (iblk m c 1 t) := by dsimp only [dats]
/-- Window 4 after the body. -/
theorem after0_4 (c : Dev nD) (t : Fin cfg0.N) : (dats m 0 c).after 4 t = out4 (iblk m c 0 t) (iblk m c 1 t) := by dsimp only [dats]
/-- Window 5 after the body. -/
theorem after0_5 (c : Dev nD) (t : Fin cfg0.N) : (dats m 0 c).after 5 t = out5 (iblk m c 0 t) (iblk m c 1 t) := by dsimp only [dats]
/-- Window 6 after the body. -/
theorem after0_6 (c : Dev nD) (t : Fin cfg0.N) : (dats m 0 c).after 6 t = out6 (iblk m c 0 t) (iblk m c 1 t) := by dsimp only [dats]
/-- Window 7 after the body. -/
theorem after0_7 (c : Dev nD) (t : Fin cfg0.N) : (dats m 0 c).after 7 t = out7 (iblk m c 0 t) (iblk m c 1 t) := by dsimp only [dats]
/-- Window 8 after the body. -/
theorem after0_8 (c : Dev nD) (t : Fin cfg0.N) : (dats m 0 c).after 8 t = out8 (iblk m c 0 t) (iblk m c 1 t) := by dsimp only [dats]
/-- The scores' staging buffer holds its block when the body runs. -/
theorem before0_0 (c : Dev nD) (t : Fin cfg0.N) (d) : (dats m 0 c).before 0 t d = iblk m c 0 t :=
  before0_0_of m (dats m 0 c) (A_eq m c 0) (after0_0 m c) t d
/-- The boxes' staging buffer holds its block when the body runs. -/
theorem before0_1 (c : Dev nD) (t : Fin cfg0.N) (d) : (dats m 0 c).before 1 t d = iblk m c 1 t :=
  before0_1_of m (dats m 0 c) (A_eq m c 1) (after0_1 m c) t d

/-! ## The body obligation, the run and the frame -/

/-- The body obligation at every point: the triple at the point's staging memrefs. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1]
  rw [show (dats m 0 c).Φ t.succ = (dats m 0 c).Φ t.castSucc from rfl,
    show (dats m 0 c).owesAt () t.succ = (dats m 0 c).owesAt () t.castSucc from rfl, after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (kernelRun c _ _ _ _ _ _ _ _ _ _ _ _ _ _ _ _ _ _ _ (iblk m c 0 t) (iblk m c 1 t) Set.univ _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

-- the launch theorem's implicit arguments are found by unifying its conclusion with this one, which takes unfolding
-- plain definitions in a metavariable's type
set_option backward.isDefEq.respectTransparency.types false in
/-- From any memory with zero counters every weakly fair execution of @main terminates, with every array of the launch
    at what the proof data say, every other buffer at what the host lines after the launch leave, and all counters zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := fun _ _ => rfl) (hΦ := fun _ _ => rfl)

/-- The frame: the arguments end as launched and every counter ends at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_with_sems (frame_of m ρ (dats m) fun _ _ => rfl) (run_main m ρ)

end Cert.KernelIdeal.Hand

end
-- ==== Proof.ReferenceRun.lean ====
/-
  Hand-written. The reference's run read at single buffers: which buffers each stretch of its host operations writes, what
  the loop leaves alone, and the frame (both arguments unchanged, every counter at zero) read off the run.
-/
module

public import proofs.«01_k».proof.Proof.Gen.ReferenceIdeal.Run
public import Idealize.ShloMosaic.Lib.Quiescent

@[expose] public section

set_option maxRecDepth 4000

noncomputable section

namespace Cert.ReferenceIdeal.Hand

open Cert.ReferenceIdeal Cert.ReferenceIdeal.Gen Cert.ReferenceIdeal.Value
open Idealize.ShloMosaic Idealize.ShloMosaic.TcCoe Idealize.ShloMosaic.StableHlo
open Idealize.SL Idealize.SL.Sem

variable {F : FTy → Type} [FloatOps F]

/-- The buffers the stretch `hostOps0_3` writes. -/
abbrev hostOps0_3_W : List (Ref sig .tc) := [main_cst_8]
/-- Every operation of `hostOps0_3` writes inside that list. -/
theorem hostOps0_3_writes : (hostOps0_3 : List (HloOp τ sig (Elt F))).Forall fun op => op.writes ⊆ (hostOps0_3_W.map (Proc.devRef (τ := τ) .tc)).toFinset :=
  StableHlo.forall_writes_sub_of_map rfl

/-- The buffers the stretch `hostOps0_4` writes. -/
abbrev hostOps0_4_W : List (Ref sig .tc) := [main_call3_v0, main_call3_v1, main_v63]
/-- Every operation of `hostOps0_4` writes inside that list. -/
theorem hostOps0_4_writes : (hostOps0_4 : List (HloOp τ sig (Elt F))).Forall fun op => op.writes ⊆ (hostOps0_4_W.map (Proc.devRef (τ := τ) .tc)).toFinset :=
  StableHlo.forall_writes_sub_of_map rfl

/-- The buffers the stretch `hostOps0_5` writes. -/
abbrev hostOps0_5_W : List (Ref sig .tc) := [main_values_9, main_indices_10, main_c_11, main_v64, main_v65, main_c_12, main_v66, main_v67, main_v68, main_v69, main_v70, main_v71, main_v72, main_v73, main_v74, main_v75, main_v76, main_values_13, main_indices_14, main_c_15, main_v77, main_v78, main_c_16, main_v79, main_v80, main_v81, main_v82, main_v83, main_c_17, main_v84, main_v85, main_c_18, main_v86, main_v87, main_v88, main_v89, main_v90, main_cst_19, main_v91, main_v92, main_v93, main_c_20, main_v94, main_cst_21]
/-- Every operation of `hostOps0_5` writes inside that list. -/
theorem hostOps0_5_writes : (hostOps0_5 : List (HloOp τ sig (Elt F))).Forall fun op => op.writes ⊆ (hostOps0_5_W.map (Proc.devRef (τ := τ) .tc)).toFinset :=
  StableHlo.forall_writes_sub_of_map rfl

/-- The buffers the stretch `hostOps0_6` writes. -/
abbrev hostOps0_6_W : List (Ref sig .tc) := [main_call4_v0, main_call4_v1, main_v95]
/-- Every operation of `hostOps0_6` writes inside that list. -/
theorem hostOps0_6_writes : (hostOps0_6 : List (HloOp τ sig (Elt F))).Forall fun op => op.writes ⊆ (hostOps0_6_W.map (Proc.devRef (τ := τ) .tc)).toFinset :=
  StableHlo.forall_writes_sub_of_map rfl

/-- The buffers the stretch `hostOps0_7` writes. -/
abbrev hostOps0_7_W : List (Ref sig .tc) := [main_v96, main_cst_22]
/-- Every operation of `hostOps0_7` writes inside that list. -/
theorem hostOps0_7_writes : (hostOps0_7 : List (HloOp τ sig (Elt F))).Forall fun op => op.writes ⊆ (hostOps0_7_W.map (Proc.devRef (τ := τ) .tc)).toFinset :=
  StableHlo.forall_writes_sub_of_map rfl

/-- The buffers the stretch `hostOps0_8` writes. -/
abbrev hostOps0_8_W : List (Ref sig .tc) := [main_call5_v0, main_call5_v1, main_call5_v2, main_v97]
/-- Every operation of `hostOps0_8` writes inside that list. -/
theorem hostOps0_8_writes : (hostOps0_8 : List (HloOp τ sig (Elt F))).Forall fun op => op.writes ⊆ (hostOps0_8_W.map (Proc.devRef (τ := τ) .tc)).toFinset :=
  StableHlo.forall_writes_sub_of_map rfl

/-- The buffers the stretch `hostOps0_9` writes. -/
abbrev hostOps0_9_W : List (Ref sig .tc) := [main_c_23]
/-- Every operation of `hostOps0_9` writes inside that list. -/
theorem hostOps0_9_writes : (hostOps0_9 : List (HloOp τ sig (Elt F))).Forall fun op => op.writes ⊆ (hostOps0_9_W.map (Proc.devRef (τ := τ) .tc)).toFinset :=
  StableHlo.forall_writes_sub_of_map rfl

/-- The buffers the stretch `hostOps0_10` writes. -/
abbrev hostOps0_10_W : List (Ref sig .tc) := [main_call6_v0, main_call6_v1, main_v98]
/-- Every operation of `hostOps0_10` writes inside that list. -/
theorem hostOps0_10_writes : (hostOps0_10 : List (HloOp τ sig (Elt F))).Forall fun op => op.writes ⊆ (hostOps0_10_W.map (Proc.devRef (τ := τ) .tc)).toFinset :=
  StableHlo.forall_writes_sub_of_map rfl

/-- A buffer no stretch of the loop's body and not the loop's condition writes holds after any number of trips what it held
    before the loop. -/
theorem loop_keep (W₀ : Dev nD → Valuation τ sig (Elt F)) (r : Ref sig .tc) (hc : r ∉ condOps_W) (h0 : r ∉ while0Ops0_W)
    (h1 : r ∉ while0Ops0_1_W) (h2 : r ∉ while0Ops0_2_W) (h3 : r ∉ while0Ops0_3_W) (c : Dev nD) :
    ∀ k, atTrip condOps bodyI W₀ k c (Proc.devRef .tc r) = W₀ c (Proc.devRef .tc r)
  | 0 => rfl
  | k + 1 => by
    rw [atTrip_succ]
    show after while0Ops0_3 (after while0Ops0_2 (after while0Ops0_1 (after while0Ops0 (after condOps _)))) _ = _
    rw [after_of_writes_sub while0Ops0_3 _ while0Ops0_3_writes h3, after_of_writes_sub while0Ops0_2 _ while0Ops0_2_writes h2,
      after_of_writes_sub while0Ops0_1 _ while0Ops0_1_writes h1, after_of_writes_sub while0Ops0 _ while0Ops0_writes h0,
      after_of_writes_sub condOps _ condOps_writes hc, loop_keep W₀ r hc h0 h1 h2 h3 c k]

/-- What the stretches after the loop leave alone. -/
theorem post_keep (V : Valuation τ sig (Elt F)) (r : Ref sig .tc)
    (h3 : r ∉ hostOps0_3_W) (h4 : r ∉ hostOps0_4_W) (h5 : r ∉ hostOps0_5_W) (h6 : r ∉ hostOps0_6_W) (h7 : r ∉ hostOps0_7_W) (h8 : r ∉ hostOps0_8_W) (h9 : r ∉ hostOps0_9_W) (h10 : r ∉ hostOps0_10_W) :
    afterL postI V (Proc.devRef .tc r) = V (Proc.devRef .tc r) := by
  show after hostOps0_10 (after hostOps0_9 (after hostOps0_8 (after hostOps0_7 (after hostOps0_6 (after hostOps0_5 (after hostOps0_4 (after hostOps0_3 V))))))) _ = _
  rw [after_of_writes_sub hostOps0_10 _ hostOps0_10_writes h10,
    after_of_writes_sub hostOps0_9 _ hostOps0_9_writes h9,
    after_of_writes_sub hostOps0_8 _ hostOps0_8_writes h8,
    after_of_writes_sub hostOps0_7 _ hostOps0_7_writes h7,
    after_of_writes_sub hostOps0_6 _ hostOps0_6_writes h6,
    after_of_writes_sub hostOps0_5 _ hostOps0_5_writes h5,
    after_of_writes_sub hostOps0_4 _ hostOps0_4_writes h4,
    after_of_writes_sub hostOps0_3 _ hostOps0_3_writes h3]

/-- What the stretches before the loop leave alone. -/
theorem pre_keep (V : Valuation τ sig (Elt F)) (r : Ref sig .tc) (h0 : r ∉ hostOps0_W) (h1 : r ∉ hostOps0_1_W) (h2 : r ∉ hostOps0_2_W) :
    afterL preI V (Proc.devRef .tc r) = V (Proc.devRef .tc r) := by
  show after hostOps0_2 (after hostOps0_1 (after hostOps0 V)) _ = _
  rw [after_of_writes_sub hostOps0_2 _ hostOps0_2_writes h2, after_of_writes_sub hostOps0_1 _ hostOps0_1_writes h1,
    after_of_writes_sub hostOps0 _ hostOps0_writes h0]

variable (m : (ℓ : Loc nD τ sig) → Buf (Elt F) ℓ) (ρ : Dev nD → PrngReg)

/-- The first argument is never written. -/
theorem final_arg0 (c : Dev nD) : finalContents condOps preI bodyI postI 200 m c (Proc.devRef .tc main_arg0) = m ((c.tc : Thread nD τ).loc main_arg0) := by
  rw [finalContents, post_keep _ _ (by decide +kernel) (by decide +kernel) (by decide +kernel) (by decide +kernel) (by decide +kernel) (by decide +kernel) (by decide +kernel) (by decide +kernel),
    after_of_writes_sub condOps _ condOps_writes (by decide +kernel),
    loop_keep _ _ (by decide +kernel) (by decide +kernel) (by decide +kernel) (by decide +kernel) (by decide +kernel), entryContents,
    pre_keep _ _ (by decide +kernel) (by decide +kernel) (by decide +kernel)]

/-- The second argument is never written. -/
theorem final_arg1 (c : Dev nD) : finalContents condOps preI bodyI postI 200 m c (Proc.devRef .tc main_arg1) = m ((c.tc : Thread nD τ).loc main_arg1) := by
  rw [finalContents, post_keep _ _ (by decide +kernel) (by decide +kernel) (by decide +kernel) (by decide +kernel) (by decide +kernel) (by decide +kernel) (by decide +kernel) (by decide +kernel),
    after_of_writes_sub condOps _ condOps_writes (by decide +kernel),
    loop_keep _ _ (by decide +kernel) (by decide +kernel) (by decide +kernel) (by decide +kernel) (by decide +kernel), entryContents,
    pre_keep _ _ (by decide +kernel) (by decide +kernel) (by decide +kernel)]

/-- THE REFERENCE'S FRAME: every weakly fair execution terminates with both arguments as they were and every semaphore
    counter at zero. -/
theorem frame : θ_run (defs (F := F)) (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  (run_fold m ρ).mono fun r h => ⟨fun c => ⟨(h c main_arg0 rfl).trans (final_arg0 m c), (h c main_arg1 rfl).trans (final_arg1 m c)⟩,
    sem_eq_zero_of_no_sems rfl _⟩

end Cert.ReferenceIdeal.Hand

end
-- ==== Proof.Order.lean ====
/-
  Hand-written. Entries ranked by value, greatest first, equal values by position: the order a top-k by a stable sort
  selects in, and the order a repeated "take the first greatest, then clear it" selects in.

  `Before pos a m n`: entry `m` comes before entry `n`. `rank pos a n`: how many entries come before `n`. Ranks of an
  injective position are a bijection onto the numbers below the count, so a selection is settled by its ranks alone.
-/
module

public import Idealize.ShloMosaic.Lib.SortPrefix
public import Idealize.ShloMosaic.Lib.SortFacts
public import Mathlib.Data.EReal.Basic
public import Mathlib.Data.Fintype.Card

@[expose] public section

noncomputable section

namespace Cert.Hand

open Idealize.ShloMosaic
open scoped Classical

section Rank
variable {ι : Type} [Fintype ι]

/-- Entry `m` comes before entry `n`: it is greater, or equal at a smaller position. -/
def Before (pos : ι → ℕ) (a : ι → EReal) (m n : ι) : Prop := a n < a m ∨ (a m = a n ∧ pos m < pos n)

/-- How many entries come before `n`. -/
def rank (pos : ι → ℕ) (a : ι → EReal) (n : ι) : ℕ := (Finset.univ.filter fun m => Before pos a m n).card

variable {pos : ι → ℕ} {a : ι → EReal}

/-- No entry comes before itself. -/
theorem Before.irrefl (n : ι) : ¬ Before pos a n n := by
  rintro (h | ⟨_, h⟩)
  · exact lt_irrefl _ h
  · exact lt_irrefl _ h

/-- Coming before is transitive. -/
theorem Before.trans {l m n : ι} (h : Before pos a l m) (h' : Before pos a m n) : Before pos a l n := by
  rcases h with h | ⟨e, h⟩ <;> rcases h' with h' | ⟨e', h'⟩
  · exact .inl (h'.trans h)
  · exact .inl (e' ▸ h)
  · exact .inl (e ▸ h')
  · exact .inr ⟨e.trans e', h.trans h'⟩

/-- Of two different entries one comes before the other. -/
theorem Before.total (hp : Function.Injective pos) {m n : ι} (h : m ≠ n) : Before pos a m n ∨ Before pos a n m := by
  rcases lt_trichotomy (a m) (a n) with h1 | h1 | h1
  · exact .inr (.inl h1)
  · rcases lt_trichotomy (pos m) (pos n) with h2 | h2 | h2
    · exact .inl (.inr ⟨h1, h2⟩)
    · exact absurd (hp h2) h
    · exact .inr (.inr ⟨h1.symm, h2⟩)
  · exact .inl (.inl h1)

/-- An entry before another is at least as great. -/
theorem Before.le {m n : ι} (h : Before pos a m n) : a n ≤ a m := by
  rcases h with h | ⟨e, _⟩
  · exact h.le
  · exact e.ge

/-- An entry before another has the smaller rank. -/
theorem rank_lt_of_before {m n : ι} (h : Before pos a m n) : rank pos a m < rank pos a n := by
  refine Finset.card_lt_card ⟨fun l hl => ?_, fun hs => ?_⟩
  · simp only [Finset.mem_filter, Finset.mem_univ, true_and] at hl ⊢
    exact hl.trans h
  · have := hs (show m ∈ _ by simp only [Finset.mem_filter, Finset.mem_univ, true_and]; exact h)
    simp only [Finset.mem_filter, Finset.mem_univ, true_and] at this
    exact Before.irrefl m this

/-- Coming before is having the smaller rank. -/
theorem before_iff (hp : Function.Injective pos) {m n : ι} : Before pos a m n ↔ rank pos a m < rank pos a n := by
  refine ⟨rank_lt_of_before, fun h => ?_⟩
  by_cases e : m = n
  · subst e; exact absurd h (lt_irrefl _)
  · rcases Before.total hp e with h' | h'
    · exact h'
    · exact absurd h (rank_lt_of_before h').asymm

/-- Different entries have different ranks. -/
theorem rank_injective (hp : Function.Injective pos) : Function.Injective (rank pos a) := fun m n h => by
  by_contra e
  rcases Before.total (a := a) hp e with h' | h'
  · exact absurd h (rank_lt_of_before h').ne
  · exact absurd h (rank_lt_of_before h').ne'

/-- A rank is below the number of entries. -/
theorem rank_lt_card (n : ι) : rank pos a n < Fintype.card ι :=
  Finset.card_lt_univ_of_notMem (x := n) (by simp [Before.irrefl])

/-- Every number below the number of entries is a rank. -/
theorem exists_rank (hp : Function.Injective pos) (k : ℕ) (hk : k < Fintype.card ι) : ∃ n, rank pos a n = k := by
  let f : ι → Fin (Fintype.card ι) := fun n => ⟨rank pos a n, rank_lt_card n⟩
  have hf : Function.Injective f := fun m n h => rank_injective hp (congrArg Fin.val h)
  have hb : Function.Bijective f := (Fintype.bijective_iff_injective_and_card f).mpr ⟨hf, by simp⟩
  obtain ⟨n, hn⟩ := hb.2 ⟨k, hk⟩
  exact ⟨n, congrArg Fin.val hn⟩

/-- The entry of rank `k` (any entry where there is none). -/
def ranked [Nonempty ι] (pos : ι → ℕ) (a : ι → EReal) (k : ℕ) : ι := Classical.epsilon fun n => rank pos a n = k

/-- The entry of rank `k` has rank `k`. -/
theorem rank_ranked [Nonempty ι] (hp : Function.Injective pos) {k : ℕ} (hk : k < Fintype.card ι) : rank pos a (ranked pos a k) = k :=
  Classical.epsilon_spec (exists_rank hp k hk)

/-- An entry is the one of its rank. -/
theorem ranked_rank [Nonempty ι] (hp : Function.Injective pos) (n : ι) : ranked pos a (rank pos a n) = n :=
  rank_injective hp (rank_ranked hp (rank_lt_card n))

/-- An entry of rank `k` is the one of rank `k`. -/
theorem ranked_eq [Nonempty ι] (hp : Function.Injective pos) {n : ι} {k : ℕ} (h : rank pos a n = k) : ranked pos a k = n := by
  rw [← h, ranked_rank hp]

/-- The greater rank has the smaller value. -/
theorem le_of_rank_le (hp : Function.Injective pos) {m n : ι} (h : rank pos a m ≤ rank pos a n) : a n ≤ a m := by
  rcases h.lt_or_eq with h | h
  · exact ((before_iff hp).mpr h).le
  · exact (rank_injective hp h) ▸ le_refl _

/-! ## Taking the first greatest and clearing it -/

/-- `p` is the first greatest entry of `s`. -/
def FirstMax (pos : ι → ℕ) (s : ι → EReal) (p : ι) : Prop := (∀ n, s n ≤ s p) ∧ ∀ n, s n = s p → pos p ≤ pos n

/-- The entries of rank below `k` cleared to `low`. -/
def cleared (pos : ι → ℕ) (a : ι → EReal) (low : EReal) (k : ℕ) (n : ι) : EReal := if rank pos a n < k then low else a n

/-- Nothing is cleared at first. -/
theorem cleared_zero (low : EReal) : cleared pos a low 0 = a := by
  funext n; simp [cleared]

/-- With the ranks below `k` cleared to less than every value, the first greatest is the entry of rank `k`. -/
theorem firstMax_cleared (hp : Function.Injective pos) {low : EReal} (hl : ∀ n, low < a n) {k : ℕ} {p : ι} (hpk : rank pos a p = k) :
    FirstMax pos (cleared pos a low k) p ∧ cleared pos a low k p = a p := by
  have e : cleared pos a low k p = a p := by simp [cleared, hpk]
  refine ⟨⟨fun n => ?_, fun n => ?_⟩, e⟩
  · rw [e]
    unfold cleared
    split_ifs with h
    · exact (hl p).le
    · exact le_of_rank_le hp (by omega)
  · rw [e]
    unfold cleared
    split_ifs with h
    · exact fun h' => absurd h' (hl p).ne
    · intro h'
      by_contra hlt
      have : Before pos a n p := .inr ⟨h', by omega⟩
      have := rank_lt_of_before this
      omega

/-- Clearing the entry of rank `k` as well. -/
theorem cleared_succ (hp : Function.Injective pos) {low : EReal} {k : ℕ} {p : ι} (hpk : rank pos a p = k) (n : ι) :
    cleared pos a low (k + 1) n = if n = p then low else cleared pos a low k n := by
  unfold cleared
  by_cases h : n = p
  · subst h; simp [hpk]
  · have : rank pos a n ≠ k := fun h' => h (rank_injective hp (h'.trans hpk.symm))
    have e : (rank pos a n < k + 1) ↔ (rank pos a n < k) := by omega
    simp only [e, h, if_false]

end Rank

/-! ## A stable sort by value sorts by value and then position -/

/-- Inserting depends only on how the list's elements compare with the one inserted. -/
theorem insertBefore_agree {ι : Type} (R R' : ι → ι → Bool) (a : ι) :
    ∀ l : List ι, (∀ b ∈ l, R b a = R' b a) → insertBefore R a l = insertBefore R' a l
  | [], _ => rfl
  | b :: l, h => by
    unfold insertBefore
    rw [h b List.mem_cons_self, insertBefore_agree R R' a l fun c hc => h c (List.mem_cons_of_mem _ hc)]

/-- On a list of increasing positions two orders that agree on "the later before the earlier" sort alike. -/
theorem stableSort_agree {n : ℕ} (R R' : Fin n → Fin n → Bool) (h : ∀ a b : Fin n, a < b → R b a = R' b a) :
    ∀ l : List (Fin n), l.Pairwise (· < ·) → stableSort R l = stableSort R' l
  | [], _ => rfl
  | a :: l, hl => by
    have hl' := List.pairwise_cons.mp hl
    unfold stableSort
    rw [stableSort_agree R R' h l hl'.2]
    exact insertBefore_agree R R' a _ fun b hb => h a b (hl'.1 b ((perm_stableSort R' l).mem_iff.mp hb))

/-- The `j`-th position of a stable sort by value, greatest first, is the one of rank `j`. -/
theorem sortedFrom_rank {n : ℕ} (x : Fin n → EReal) (R : Fin n → Fin n → Bool) (hR : ∀ a b, R a b = decide (x b < x a)) (j : Fin n) :
    rank Fin.val x (sortedFrom R j) = j.val := by
  let B : Fin n → Fin n → Bool := fun a b => decide (Before Fin.val x a b)
  have hB : StrictTotalBefore B :=
    { irrefl := fun a => by simp [B, Before.irrefl]
      trans := fun a b c h h' => by
        simp only [B, decide_eq_true_eq] at h h' ⊢; exact h.trans h'
      total := fun a b h => by
        simp only [B, decide_eq_true_eq]; exact Before.total Fin.val_injective h }
  have e : sortedFrom R j = sortedFrom B j := by
    have : sortPositions n R = sortPositions n B :=
      stableSort_agree R B (fun a b hab => by
        rw [hR]
        simp only [B, Before]
        congr 1
        apply propext
        constructor
        · exact .inl
        · rintro (h | ⟨_, h⟩)
          · exact h
          · exact absurd h (by have : a.val < b.val := hab; omega)) _ (List.pairwise_lt_finRange n)
    unfold sortedFrom
    rw [List.get_of_eq this]
    rfl
  haveI : Nonempty (Fin n) := ⟨j⟩
  have hc : ∀ i : Fin n, rank Fin.val x (ranked Fin.val x i.val) = i.val := fun i =>
    rank_ranked Fin.val_injective (by simp)
  have h := hB.sortedFrom_eq_of_prefix le_rfl (fun i : Fin n => ranked Fin.val x i.val)
    (fun i i' h => Fin.ext (by
      have h2 := congrArg (rank Fin.val x) h
      simp only [hc] at h2
      exact h2))
    (fun i i' hii => by
      simp only [B, decide_eq_false_iff_not]
      rw [before_iff Fin.val_injective, hc, hc]
      have : i.val < i'.val := hii
      omega)
    (fun i p hp => absurd (ranked_rank Fin.val_injective p) (hp ⟨rank Fin.val x p, by simpa using rank_lt_card (pos := Fin.val) (a := x) p⟩)) j
  rw [e]
  have h' : sortedFrom B j = ranked Fin.val x j.val := h
  rw [h', hc]

end Cert.Hand

end
-- ==== Proof.OneHot.lean ====
/-
  Hand-written. "Take the first greatest" as a vector program does it, at the extended reals: the greatest value is a
  maximum; the first position holding it is a minimum of position words; its one-hot row picks an entry out of a row as
  a sum of products. Also the literals the two programs share, as extended reals.
-/
module

public import proofs.«01_k».proof.Proof.Order
public import Idealize.ShloMosaic.Lib.Pointwise
public import Idealize.ShloMosaic.Lib.SortNet.Extract

@[expose] public section

noncomputable section

namespace Cert.Hand

open Idealize.ShloMosaic

/-! ## Literals -/

/-- The pattern of minus infinity. -/
theorem lit_neg_inf : Ideal.ofBits .f32 0xFF800000#32 = ⊥ := by simp [Ideal.ofBits, Ideal.ieee]
/-- The pattern of -1. -/
theorem lit_neg_one : Ideal.ofBits .f32 0xBF800000#32 = ((-1 : ℝ) : EReal) := by simp [Ideal.ofBits, Ideal.ieee]; rw [← EReal.coe_mul]; norm_num
/-- The pattern of -2. -/
theorem lit_neg_two : Ideal.ofBits .f32 0xC0000000#32 = ((-2 : ℝ) : EReal) := by simp [Ideal.ofBits, Ideal.ieee]; rw [← EReal.coe_mul]; norm_num
/-- The pattern of -3. -/
theorem lit_neg_three : Ideal.ofBits .f32 0xC0400000#32 = ((-3 : ℝ) : EReal) := by simp [Ideal.ofBits, Ideal.ieee]; rw [← EReal.coe_mul]; norm_num
/-- The pattern of -4. -/
theorem lit_neg_four : Ideal.ofBits .f32 0xC0800000#32 = ((-4 : ℝ) : EReal) := by simp [Ideal.ofBits, Ideal.ieee]; rw [← EReal.coe_mul]; norm_num
/-- The pattern of -9. -/
theorem lit_neg_nine : Ideal.ofBits .f32 0xC1100000#32 = ((-9 : ℝ) : EReal) := by simp [Ideal.ofBits, Ideal.ieee]; rw [← EReal.coe_mul]; norm_num
/-- The score threshold is positive. -/
theorem lit_thresh_pos : (0 : EReal) < Ideal.ofBits .f32 0x3D4CCCCD#32 := by
  simp [Ideal.ofBits, Ideal.ieee]; rw [← EReal.coe_mul]; exact_mod_cast (by positivity : (0 : ℝ) < 13421773 * (2 ^ 28)⁻¹)

/-! ## Words -/

/-- The comparison of two position words is the comparison of the positions. -/
theorem cmpi_eq_ofNat {a b : ℕ} (ha : a < 2 ^ 32) (hb : b < 2 ^ 32) :
    IntOp.cmpi .eq (BitVec.ofNat 32 a) (BitVec.ofNat 32 b) = if a = b then 1#1 else 0#1 := by
  have : (BitVec.ofNat 32 a = BitVec.ofNat 32 b) ↔ a = b := by
    constructor
    · intro h
      have := congrArg BitVec.toNat h
      rwa [BitVec.toNat_ofNat, BitVec.toNat_ofNat, Nat.mod_eq_of_lt ha, Nat.mod_eq_of_lt hb] at this
    · rintro rfl; rfl
  by_cases h : a = b
  · subst h; simp [IntOp.cmpi]
  · have hne : ¬ BitVec.ofNat 32 a = BitVec.ofNat 32 b := fun e => h (this.mp e)
    rw [if_neg h]
    simp only [IntOp.cmpi, beq_eq_false_iff_ne.mpr hne]; rfl

/-- The induction variable of a loop from 0 by 1. -/
theorem iv_ofNat (k : ℕ) : Scf.iv 0#32 1#32 k = BitVec.ofNat 32 k := by simp [Scf.iv]

/-- A small position word read signed. -/
theorem toInt_ofNat_small {a : ℕ} (ha : a < 2 ^ 31) : (BitVec.ofNat 32 a).toInt = a := by
  rw [BitVec.toInt_eq_toNat_of_lt] <;> simp [Nat.mod_eq_of_lt (show a < 4294967296 by omega)]
  omega

/-! ## The first greatest -/

section
variable {ι : Type} [Fintype ι] {pos : ι → ℕ} {s : ι → EReal} {p : ι}

/-- The maximum of a row is its first greatest entry. -/
theorem fold_max_first (h : FirstMax pos s p) : Finset.univ.fold max ⊥ s = s p := by
  apply le_antisymm
  · rw [Finset.fold_max_le]
    exact ⟨bot_le, fun x _ => h.1 x⟩
  · rw [Finset.le_fold_max]
    exact .inr ⟨p, Finset.mem_univ p, le_rfl⟩

/-- The least position word among the greatest entries is the first greatest entry's. -/
theorem fold_minsi_first [∀ x, Decidable (s x = s p)] (hpos : ∀ n, pos n < 2 ^ 30) (h : FirstMax pos s p) :
    Finset.univ.fold IntOp.minsi 2147483647#32 (fun x => if s x = s p then BitVec.ofNat 32 (pos x) else 1073741824#32) = BitVec.ofNat 32 (pos p) := by
  apply BitVec.eq_of_toInt_eq
  rw [← Finset.fold_hom (op := IntOp.minsi) (op' := min) (m := BitVec.toInt) (fun x y => SortNet.toInt_minsi x y)]
  have hp := hpos p
  apply le_antisymm
  · rw [Finset.fold_min_le]
    exact .inr ⟨p, Finset.mem_univ p, by rw [if_pos rfl]⟩
  · rw [Finset.le_fold_min, toInt_ofNat_small (by omega)]
    refine ⟨?_, fun x _ => ?_⟩
    · have : (2147483647#32).toInt = 2147483647 := by decide
      rw [this]; omega
    · by_cases hx : s x = s p
      · have := h.2 x hx
        have hx' := hpos x
        rw [if_pos hx, toInt_ofNat_small (by omega)]; omega
      · have : (1073741824#32).toInt = 1073741824 := by decide
        rw [if_neg hx, this]; omega

end

/-! ## The one-hot sum -/

/-- The number a one-bit word converts to. -/
theorem bit_toReal (b : Prop) [Decidable b] :
    (((BitVec.setWidth 32 (if b then 1#1 else 0#1)).toInt : ℝ) : EReal) = if b then 1 else 0 := by
  by_cases h : b <;> simp [h]

/-- A row times a one-hot row, summed, is the picked entry. -/
theorem sum_oneHot {ι : Type} [Fintype ι] (p : ι) [∀ x, Decidable (x = p)] (y : ι → EReal) : ∑ x, (if x = p then (1 : EReal) else 0) * y x = y p := by
  rw [Finset.sum_eq_single p]
  · simp
  · intro b _ hb; simp [hb]
  · intro h; exact absurd (Finset.mem_univ p) h

/-- A table times a one-hot table, summed row by row, is the picked entry. -/
theorem sum_oneHot2 {ι κ : Type} [Fintype ι] [Fintype κ] (p : ι × κ) [∀ q, Decidable (q = p)] (y : ι → κ → EReal) :
    ∑ x, ∑ z, (if (x, z) = p then (1 : EReal) else 0) * y x z = y p.1 p.2 := by
  rw [← Fintype.sum_prod_type' (f := fun x z => (if (x, z) = p then (1 : EReal) else 0) * y x z)]
  exact sum_oneHot p fun q => y q.1 q.2

end Cert.Hand
-- ==== Proof.SelectValue.lean ====
/-
  Hand-written. The kernel's selection loop at the extended reals: after its trips slot `k` of class `c` holds the
  score and the box of the entry of rank `k` among the class's thresholded scores.
-/
module

public import proofs.«01_k».proof.Proof.KernelIdealRun
public import proofs.«01_k».proof.Proof.OneHot

@[expose] public section

set_option maxRecDepth 16384

noncomputable section

namespace Cert.KernelIdeal.Hand

open Cert.KernelIdeal Cert.KernelIdeal.Gen
open Idealize.ShloMosaic Idealize.ShloMosaic.TcCoe
open Cert.Hand

/-- The value of a cleared score, of an unused score slot, of a score at or below the threshold. -/
abbrev negTwo : EReal := Ideal.ofBits .f32 0xC0000000#32
/-- The value an unused score slot starts with. -/
abbrev negThree : EReal := Ideal.ofBits .f32 0xC0400000#32
/-- The value of a score at or below the threshold. -/
abbrev negOne : EReal := Ideal.ofBits .f32 0xBF800000#32
/-- The score threshold. -/
abbrev thresh : EReal := Ideal.ofBits .f32 0x3D4CCCCD#32

/-- The thresholded scores of class `c` in the score block. -/
def rowS (x0 : Vec Ideal S1x91x20096 .f32) (c : Fin 91) (n : Fin 20096) : EReal :=
  if thresh < x0 (ix3 0 c n) then x0 (ix3 0 c n) else negOne

/-- The entry of rank `k` of class `c`. -/
def pick (x0 : Vec Ideal S1x91x20096 .f32) (c : Fin 91) (k : ℕ) : Fin 20096 := ranked Fin.val (rowS x0 c) k

/-- A thresholded score is at least -1. -/
theorem negOne_le_rowS (x0 : Vec Ideal S1x91x20096 .f32) (c : Fin 91) (n : Fin 20096) : negOne ≤ rowS x0 c n := by
  unfold rowS
  split_ifs with h
  · refine le_trans ?_ (le_of_lt (lt_trans lit_thresh_pos h))
    rw [negOne, lit_neg_one]; exact_mod_cast (by norm_num : (-1 : ℝ) ≤ 0)
  · exact le_rfl

/-- A thresholded score is greater than a cleared one. -/
theorem negTwo_lt_rowS (x0 : Vec Ideal S1x91x20096 .f32) (c : Fin 91) (n : Fin 20096) : negTwo < rowS x0 c n := by
  refine lt_of_lt_of_le ?_ (negOne_le_rowS x0 c n)
  rw [negTwo, negOne, lit_neg_one, lit_neg_two]; exact_mod_cast (by norm_num : (-2 : ℝ) < -1)

/-- The loop makes 200 trips. -/
theorem trips1 : k0_t1_loop.trips = 200 := by decide +kernel

section Step
variable (s : FVec Ideal S91x20096 .f32) (c : Fin 91) (p : Fin 20096) (h : FirstMax Fin.val (fun n : Fin 20096 => s (ix2 c n)) p)
include h

/-- The row maximum is the first greatest score. -/
theorem pay29_at : k0_pay29 (F := Ideal) s (ix2 c 0) = s (ix2 c p) := by
  pointwise [k0_pay29]
  rw [lit_neg_inf]
  exact fold_max_first h

/-- The one-hot row marks the first greatest score. -/
theorem pay30_at (n : Fin 20096) : k0_pay30 (F := Ideal) s (ix2 c n) = if n = p then 1#1 else 0#1 := by
  pointwise [k0_pay30]
  rw [pay29_at s c p h]
  refine (congrArg (IntOp.cmpi .eq (BitVec.ofNat 32 n.val)) (fold_minsi_first (pos := Fin.val) (fun n => by omega) h)).trans ?_
  rw [cmpi_eq_ofNat (by omega) (by omega)]
  simp only [Fin.ext_iff]

/-- The one-hot row as numbers. -/
theorem pay31_at (n : Fin 20096) : k0_pay31 (F := Ideal) s (ix2 c n) = if n = p then (1 : EReal) else 0 := by
  pointwise [k0_pay31]
  rw [pay30_at s c p h]
  exact bit_toReal (n = p)

/-- The scores after the trip: the picked one cleared. -/
theorem pay32_at (n : Fin 20096) : k0_pay32 (F := Ideal) s (ix2 c n) = if n = p then negTwo else s (ix2 c n) := by
  pointwise [k0_pay32]
  rw [pay30_at s c p h]
  split_ifs <;> rfl

/-- The picked scores after trip `k`: the greatest one in slot `k`. -/
theorem pay34_at (k : Fin k0_t1_loop.trips) (o : FVec Ideal S91x256 .f32) (j : Fin 256) :
    k0_pay34 (F := Ideal) k s o (ix2 c j) = if j.val = k.val then s (ix2 c p) else o (ix2 c j) := by
  have hk : k.val < 200 := lt_of_lt_of_eq k.isLt trips1
  pointwise [k0_pay34, k0_pay33]
  rw [iv_ofNat, cmpi_eq_ofNat (by omega) (by omega), pay29_at s c p h]
  split_ifs <;> rfl

/-- The picked first coordinates after trip `k`. -/
theorem pay35_at (b : Vec Ideal S1x4x20096 .f32) (k : Fin k0_t1_loop.trips) (o : FVec Ideal S91x256 .f32) (j : Fin 256) :
    k0_pay35 (F := Ideal) b k s o (ix2 c j) = if j.val = k.val then b (ix3 0 0 p) else o (ix2 c j) := by
  have hk : k.val < 200 := lt_of_lt_of_eq k.isLt trips1
  pointwise [k0_pay35, k0_pay33, k0_pay23]
  rw [iv_ofNat, cmpi_eq_ofNat (by omega) (by omega)]
  simp only [pay31_at s c p h]
  rw [sum_oneHot p fun n => (show EReal from b (ix3 0 0 n))]
  split_ifs <;> rfl

/-- The picked second coordinates after trip `k`. -/
theorem pay36_at (b : Vec Ideal S1x4x20096 .f32) (k : Fin k0_t1_loop.trips) (o : FVec Ideal S91x256 .f32) (j : Fin 256) :
    k0_pay36 (F := Ideal) b k s o (ix2 c j) = if j.val = k.val then b (ix3 0 1 p) else o (ix2 c j) := by
  have hk : k.val < 200 := lt_of_lt_of_eq k.isLt trips1
  pointwise [k0_pay36, k0_pay33, k0_pay23]
  rw [iv_ofNat, cmpi_eq_ofNat (by omega) (by omega)]
  simp only [pay31_at s c p h]
  rw [sum_oneHot p fun n => (show EReal from b (ix3 0 1 n))]
  split_ifs <;> rfl

/-- The picked third coordinates after trip `k`. -/
theorem pay37_at (b : Vec Ideal S1x4x20096 .f32) (k : Fin k0_t1_loop.trips) (o : FVec Ideal S91x256 .f32) (j : Fin 256) :
    k0_pay37 (F := Ideal) b k s o (ix2 c j) = if j.val = k.val then b (ix3 0 2 p) else o (ix2 c j) := by
  have hk : k.val < 200 := lt_of_lt_of_eq k.isLt trips1
  pointwise [k0_pay37, k0_pay33, k0_pay23]
  rw [iv_ofNat, cmpi_eq_ofNat (by omega) (by omega)]
  simp only [pay31_at s c p h]
  rw [sum_oneHot p fun n => (show EReal from b (ix3 0 2 n))]
  split_ifs <;> rfl

/-- The picked fourth coordinates after trip `k`. -/
theorem pay38_at (b : Vec Ideal S1x4x20096 .f32) (k : Fin k0_t1_loop.trips) (o : FVec Ideal S91x256 .f32) (j : Fin 256) :
    k0_pay38 (F := Ideal) b k s o (ix2 c j) = if j.val = k.val then b (ix3 0 3 p) else o (ix2 c j) := by
  have hk : k.val < 200 := lt_of_lt_of_eq k.isLt trips1
  pointwise [k0_pay38, k0_pay33, k0_pay23]
  rw [iv_ofNat, cmpi_eq_ofNat (by omega) (by omega)]
  simp only [pay31_at s c p h]
  rw [sum_oneHot p fun n => (show EReal from b (ix3 0 3 n))]
  split_ifs <;> rfl

end Step

/-- What the selection loop carries after `k` trips: the scores with the first `k` ranks cleared, and slots below `k`
    holding the entries of their ranks. -/
structure SelInv (x0 : Vec Ideal S1x91x20096 .f32) (x1 : Vec Ideal S1x4x20096 .f32) (k : ℕ) (a : St1 Ideal) : Prop where
  score : ∀ (c : Fin 91) (n : Fin 20096), a.1 (ix2 c n) = cleared Fin.val (rowS x0 c) negTwo k n
  top : ∀ (c : Fin 91) (j : Fin 256), a.2.1 (ix2 c j) = if j.val < k then rowS x0 c (pick x0 c j) else negThree
  cy1 : ∀ (c : Fin 91) (j : Fin 256), a.2.2.1 (ix2 c j) = if j.val < k then x1 (ix3 0 0 (pick x0 c j)) else (0 : EReal)
  cx1 : ∀ (c : Fin 91) (j : Fin 256), a.2.2.2.1 (ix2 c j) = if j.val < k then x1 (ix3 0 1 (pick x0 c j)) else (0 : EReal)
  cy2 : ∀ (c : Fin 91) (j : Fin 256), a.2.2.2.2.1 (ix2 c j) = if j.val < k then x1 (ix3 0 2 (pick x0 c j)) else (0 : EReal)
  cx2 : ∀ (c : Fin 91) (j : Fin 256), a.2.2.2.2.2 (ix2 c j) = if j.val < k then x1 (ix3 0 3 (pick x0 c j)) else (0 : EReal)

/-- A slot set at trip `k`, the slots below it set before: the slots below `k + 1`. -/
theorem slot_step {α : Type} (v : ℕ → α) (o : α) (j k : ℕ) (w : α) (hw : w = v k) :
    (if j = k then w else if j < k then v j else o) = if j < k + 1 then v j else o := by
  by_cases h : j = k
  · subst h; simp [hw]
  · have : j < k + 1 ↔ j < k := by omega
    simp only [h, if_false, this]

/-- The selection loop's result. -/
theorem sel_inv (x0 : Vec Ideal S1x91x20096 .f32) (x1 : Vec Ideal S1x4x20096 .f32) : SelInv x0 x1 200 (sel x0 x1) := by
  have := tripFold_induct (g1 (F := Ideal) x1) (init1 x0) (SelInv x0 x1) ?_ ?_
  · exact trips1 ▸ this
  · refine ⟨fun c n => ?_, fun c j => ?_, fun c j => ?_, fun c j => ?_, fun c j => ?_, fun c j => ?_⟩
    · rw [cleared_zero]; unfold init1 rowS; pointwise [k0_pay22]
    · unfold init1; pointwise [k0_pay24]; simp
    · unfold init1; pointwise [k0_pay25]; simp
    · unfold init1; pointwise [k0_pay26]; simp
    · unfold init1; pointwise [k0_pay27]; simp
    · unfold init1; pointwise [k0_pay28]; simp
  · intro k a ih
    have hk : k.val < 200 := lt_of_lt_of_eq k.isLt trips1
    have hr : ∀ c, rank Fin.val (rowS x0 c) (pick x0 c k) = k.val := fun c =>
      rank_ranked Fin.val_injective (by rw [Fintype.card_fin]; omega)
    have hf := fun c => firstMax_cleared Fin.val_injective (negTwo_lt_rowS x0 c) (hr c)
    have hm : ∀ c, FirstMax Fin.val (fun n : Fin 20096 => a.1 (ix2 c n)) (pick x0 c k) := fun c => by
      have : (fun n : Fin 20096 => a.1 (ix2 c n)) = cleared Fin.val (rowS x0 c) negTwo k := funext fun n => ih.score c n
      rw [this]; exact (hf c).1
    refine ⟨fun c n => ?_, fun c j => ?_, fun c j => ?_, fun c j => ?_, fun c j => ?_, fun c j => ?_⟩
    · have e : k0_pay32 (F := Ideal) a.1 (ix2 c n) = if n = pick x0 c k then negTwo else a.1 (ix2 c n) := pay32_at a.1 c _ (hm c) n
      rw [cleared_succ Fin.val_injective (hr c) n]
      unfold g1; dsimp only; rw [e]
      by_cases e : n = pick x0 c k
      · rw [if_pos e, if_pos e]
      · rw [if_neg e, if_neg e]; exact ih.score c n
    · refine (pay34_at a.1 c _ (hm c) k _ j).trans ?_
      rw [ih.top c j]
      exact slot_step (fun i => rowS x0 c (pick x0 c i)) _ _ _ _ ((ih.score c _).trans (hf c).2)
    · refine (pay35_at a.1 c _ (hm c) x1 k _ j).trans ?_
      rw [ih.cy1 c j]
      exact slot_step (fun i => (show EReal from x1 (ix3 0 0 (pick x0 c i)))) _ _ _ _ rfl
    · refine (pay36_at a.1 c _ (hm c) x1 k _ j).trans ?_
      rw [ih.cx1 c j]
      exact slot_step (fun i => (show EReal from x1 (ix3 0 1 (pick x0 c i)))) _ _ _ _ rfl
    · refine (pay37_at a.1 c _ (hm c) x1 k _ j).trans ?_
      rw [ih.cy2 c j]
      exact slot_step (fun i => (show EReal from x1 (ix3 0 2 (pick x0 c i)))) _ _ _ _ rfl
    · refine (pay38_at a.1 c _ (hm c) x1 k _ j).trans ?_
      rw [ih.cx2 c j]
      exact slot_step (fun i => (show EReal from x1 (ix3 0 3 (pick x0 c i)))) _ _ _ _ rfl

end Cert.KernelIdeal.Hand
-- ==== Proof.Keep.lean ====
/-
  Hand-written. Greedy suppression as mathematics: boxes in rank order, each round the pivot, if still kept, drops the
  later boxes that overlap it by more than half.
-/
module

public import Idealize.ShloMosaic.Lib.Pointwise

@[expose] public section

noncomputable section

namespace Cert.Hand

open Idealize.ShloMosaic

/-- The area common to boxes `i` and `j`, given by their low and high corners `a`, `b` and `c`, `d`. -/
def inter (a b c d : ℕ → EReal) (i j : ℕ) : EReal :=
  max (min (c i) (c j) - max (a i) (a j)) 0 * max (min (d i) (d j) - max (b i) (b j)) 0

/-- The area of a box. -/
def area (a b c d : ℕ → EReal) (i : ℕ) : EReal := (c i - a i) * (d i - b i)

/-- The area covered by boxes `i` and `j`. -/
def union (a b c d : ℕ → EReal) (i j : ℕ) : EReal := area a b c d i + area a b c d j - inter a b c d i j

/-- Their common area over the area they cover, the latter kept away from zero. -/
def overlap (a b c d : ℕ → EReal) (i j : ℕ) : EReal :=
  Ideal.div (inter a b c d i j) (max (union a b c d i j) (Ideal.ofBits .f32 0x322BCC77#32))

/-- Boxes `i` and `j` overlap by more than half. -/
def Clash (a b c d : ℕ → EReal) (i j : ℕ) : Prop := Ideal.ofBits .f32 0x3F000000#32 < overlap a b c d i j

/-- Box `j` is kept after `k` rounds, of the boxes kept at first, `v`. -/
def keepAt (clash : ℕ → ℕ → Prop) (v : ℕ → Prop) : ℕ → ℕ → Prop
  | 0, j => v j
  | k + 1, j => keepAt clash v k j ∧ ¬ (clash k j ∧ k < j ∧ keepAt clash v k k)

/-- Fewer rounds keep more. -/
theorem keepAt_le {clash : ℕ → ℕ → Prop} {v : ℕ → Prop} {k j : ℕ} (h : keepAt clash v k j) : v j := by
  induction k with
  | zero => exact h
  | succ k ih => exact ih h.1

end Cert.Hand
-- ==== Proof.KeepValue.lean ====
/-
  Hand-written. The kernel's suppression loop at the extended reals: it keeps slot `j` of class `c` when the greedy
  suppression of the class's boxes in rank order does.
-/
module

public import proofs.«01_k».proof.Proof.SelectValue
public import proofs.«01_k».proof.Proof.Keep
public import Mathlib.Data.BitVec

@[expose] public section

set_option maxRecDepth 16384

noncomputable section

namespace Cert.KernelIdeal.Hand

open Cert.KernelIdeal Cert.KernelIdeal.Gen
open Idealize.ShloMosaic Idealize.ShloMosaic.TcCoe
open Cert.Hand
open scoped Classical

/-- The loop makes 200 trips. -/
theorem trips2 : k0_t2_loop.trips = 200 := by decide +kernel

/-- A sum of words all zero but one. -/
theorem fold_addi_single {n : ℕ} (k : Fin n) (f : Fin n → BitVec 32) (hf : ∀ x, x ≠ k → f x = 0#32) :
    Finset.univ.fold IntOp.addi 0#32 f = f k := by
  have e : Finset.univ.fold IntOp.addi 0#32 f = ∑ x, f x := (Finset.sum_eq_fold Finset.univ f).symm
  rw [e, Finset.sum_eq_single k (fun b _ hb => hf b hb) (fun h => absurd (Finset.mem_univ k) h)]

/-- A word that is 1 or 0 by a proposition is positive exactly when it holds. -/
theorem cmpi_sgt_bit (b : Prop) [Decidable b] : IntOp.cmpi .sgt (if b then 1#32 else 0#32) 0#32 = if b then 1#1 else 0#1 := by
  by_cases h : b
  · simp only [h, if_true]; decide
  · simp only [h, if_false]; decide

/-- The signed order of two small position words is the order of the positions. -/
theorem cmpi_sgt_ofNat {a b : ℕ} (ha : a < 2 ^ 31) (hb : b < 2 ^ 31) :
    IntOp.cmpi .sgt (BitVec.ofNat 32 a) (BitVec.ofNat 32 b) = if b < a then 1#1 else 0#1 := by
  have e : (BitVec.ofNat 32 b).slt (BitVec.ofNat 32 a) = decide (b < a) := by
    rw [BitVec.slt_eq_decide, toInt_ofNat_small ha, toInt_ofNat_small hb]; simp
  simp only [IntOp.cmpi, e]
  by_cases h : b < a <;> simp [h]

/-- Both of two bits are set. -/
theorem andi_bit (b c : Prop) [Decidable b] [Decidable c] [Decidable (b ∧ c)] :
    IntOp.andi (if b then 1#1 else 0#1) (if c then 1#1 else 0#1) = if b ∧ c then 1#1 else 0#1 := by
  by_cases h : b <;> by_cases h' : c <;> simp [h, h', IntOp.andi]

/-- A bit from a decision. -/
theorem ofBool_bit (b : Prop) [Decidable b] : BitVec.ofBool (decide b) = if b then 1#1 else 0#1 := by
  by_cases h : b <;> simp [h]

section Step
variable (y1 x1 y2 x2 : FVec Ideal S91x256 .f32) (k : Fin k0_t2_loop.trips) (c : Fin 91)

/-- The pivot's slot. -/
def pivot (k : Fin k0_t2_loop.trips) : Fin 256 := ⟨k.val, by have : k.val < 200 := lt_of_lt_of_eq k.isLt trips2; omega⟩

/-- The one-hot row marks the pivot. -/
theorem pay5_at (n : Fin 256) : k0_pay5 slotIota 0#32 1#32 k (ix2 c n) = if n = pivot k then 1#1 else 0#1 := by
  have hk : k.val < 200 := lt_of_lt_of_eq k.isLt trips2
  pointwise [k0_pay5]
  rw [iv_ofNat, cmpi_eq_ofNat (by omega) (by omega)]
  simp only [Fin.ext_iff, pivot]

/-- The one-hot row as numbers. -/
theorem pay6_at (n : Fin 256) : k0_pay6 (F := Ideal) slotIota 0#32 1#32 k (ix2 c n) = if n = pivot k then (1 : EReal) else 0 := by
  pointwise [k0_pay6]
  rw [pay5_at]
  exact bit_toReal (n = pivot k)

/-- The pivot's first coordinate. -/
theorem pay7_at : k0_pay7 (F := Ideal) slotIota y1 0#32 1#32 k (ix2 c 0) = y1 (ix2 c (pivot k)) := by
  pointwise [k0_pay7]
  simp only [pay6_at]
  exact sum_oneHot (pivot k) fun n => (show EReal from y1 (ix2 c n))
/-- The pivot's second coordinate. -/
theorem pay8_at : k0_pay8 (F := Ideal) slotIota x1 0#32 1#32 k (ix2 c 0) = x1 (ix2 c (pivot k)) := by
  pointwise [k0_pay8]
  simp only [pay6_at]
  exact sum_oneHot (pivot k) fun n => (show EReal from x1 (ix2 c n))
/-- The pivot's third coordinate. -/
theorem pay9_at : k0_pay9 (F := Ideal) slotIota y2 0#32 1#32 k (ix2 c 0) = y2 (ix2 c (pivot k)) := by
  pointwise [k0_pay9]
  simp only [pay6_at]
  exact sum_oneHot (pivot k) fun n => (show EReal from y2 (ix2 c n))
/-- The pivot's fourth coordinate. -/
theorem pay10_at : k0_pay10 (F := Ideal) slotIota x2 0#32 1#32 k (ix2 c 0) = x2 (ix2 c (pivot k)) := by
  pointwise [k0_pay10]
  simp only [pay6_at]
  exact sum_oneHot (pivot k) fun n => (show EReal from x2 (ix2 c n))

/-- Whether the pivot is still kept. -/
theorem pay11_at (a : IVec S91x256 32) (b : Prop) (h : a (ix2 c (pivot k)) = if b then 1#32 else 0#32) :
    k0_pay11 slotIota 0#32 1#32 k a (ix2 c 0) = if b then 1#1 else 0#1 := by
  pointwise [k0_pay11]
  rw [fold_addi_single (pivot k)]
  · rw [pay5_at, if_pos rfl, h, cmpi_sgt_bit]
    by_cases hb : b
    · simp only [hb, if_true]; decide
    · simp only [hb, if_false]; decide
  · intro x hx
    rw [pay5_at, if_neg hx]
    have : ∀ z : BitVec 1, Scalar.select (IntOp.andi 0#1 z) 1#32 0#32 = 0#32 := by decide
    exact this _

variable (Y1 X1 Y2 X2 : ℕ → EReal)
  (h1 : ∀ j : Fin 256, j.val < 200 → y1 (ix2 c j) = Y1 j) (h2 : ∀ j : Fin 256, j.val < 200 → x1 (ix2 c j) = X1 j)
  (h3 : ∀ j : Fin 256, j.val < 200 → y2 (ix2 c j) = Y2 j) (h4 : ∀ j : Fin 256, j.val < 200 → x2 (ix2 c j) = X2 j)
include h1 h2 h3 h4

/-- The common area of the pivot and a slot. -/
theorem pay12_at (n : Fin 256) (hn : n.val < 200) :
    k0_pay12 (F := Ideal) slotIota y1 x1 y2 x2 0#32 1#32 k (ix2 c n) = inter Y1 X1 Y2 X2 k n := by
  have hk : k.val < 200 := lt_of_lt_of_eq k.isLt trips2
  pointwise [k0_pay12]
  rw [pay7_at, pay8_at, pay9_at, pay10_at, h1 _ hn, h2 _ hn, h3 _ hn, h4 _ hn, h1 (pivot k) hk, h2 (pivot k) hk, h3 (pivot k) hk, h4 (pivot k) hk]
  rfl

/-- The area the pivot and a slot cover. -/
theorem pay13_at (n : Fin 256) (hn : n.val < 200) :
    k0_pay13 (F := Ideal) slotIota y1 x1 y2 x2 (k0_pay39 y1 x1 y2 x2) 0#32 1#32 k (ix2 c n) = union Y1 X1 Y2 X2 k n := by
  have hk : k.val < 200 := lt_of_lt_of_eq k.isLt trips2
  pointwise [k0_pay13, k0_pay39]
  rw [pay12_at y1 x1 y2 x2 k c Y1 X1 Y2 X2 h1 h2 h3 h4 n hn, pay7_at, pay8_at, pay9_at, pay10_at, h1 _ hn, h2 _ hn, h3 _ hn, h4 _ hn, h1 (pivot k) hk, h2 (pivot k) hk, h3 (pivot k) hk, h4 (pivot k) hk]
  rfl

/-- One trip of the suppression loop on a kept slot word of a used slot. -/
theorem g2_at (a : IVec S91x256 32) (n : Fin 256) (hn : n.val < 200) (K : ℕ → Prop)
    (ha : ∀ j : Fin 256, j.val < 200 → a (ix2 c j) = if K j then 1#32 else 0#32) :
    g2 (F := Ideal) slotIota y1 x1 y2 x2 k a (ix2 c n) = if K n ∧ ¬ (Clash Y1 X1 Y2 X2 k n ∧ k.val < n.val ∧ K k) then 1#32 else 0#32 := by
  have hk : k.val < 200 := lt_of_lt_of_eq k.isLt trips2
  unfold g2
  pointwise [k0_pay41]
  rw [pay12_at y1 x1 y2 x2 k c Y1 X1 Y2 X2 h1 h2 h3 h4 n hn, pay13_at y1 x1 y2 x2 k c Y1 X1 Y2 X2 h1 h2 h3 h4 n hn,
    pay11_at k c a (K k) (ha (pivot k) hk), iv_ofNat, cmpi_sgt_ofNat (by omega) (by omega), ha n hn]
  rw [ofBool_bit, andi_bit, andi_bit]
  have hC : Clash Y1 X1 Y2 X2 k n ↔ Ideal.ofBits .f32 0x3F000000#32
      < Ideal.div (inter Y1 X1 Y2 X2 k n) (max (union Y1 X1 Y2 X2 k n) (Ideal.ofBits .f32 0x322BCC77#32)) := Iff.rfl
  simp only [← hC]
  by_cases hc : Clash Y1 X1 Y2 X2 k n <;> by_cases hl : k.val < n.val <;> by_cases hK : K k <;> by_cases hn' : K n <;> simp [hc, hl, hK, hn', Scalar.select]

end Step

/-- One trip leaves a zero word zero. -/
theorem g2_zero (y1 x1 y2 x2 : FVec Ideal S91x256 .f32) (k : Fin k0_t2_loop.trips) (c : Fin 91) (a : IVec S91x256 32) (n : Fin 256)
    (ha : a (ix2 c n) = 0#32) : g2 (F := Ideal) slotIota y1 x1 y2 x2 k a (ix2 c n) = 0#32 := by
  unfold g2
  pointwise [k0_pay41]
  rw [ha]
  exact ite_self _

/-- Coordinate `r` of the box of rank `j` of class `c`. -/
def boxOf (x0 : Vec Ideal S1x91x20096 .f32) (x1 : Vec Ideal S1x4x20096 .f32) (c : Fin 91) (r : Fin 4) (j : ℕ) : EReal :=
  x1 (ix3 0 r (pick x0 c j))

/-- The boxes of ranks `i` and `j` of class `c` clash. -/
def clash (x0 : Vec Ideal S1x91x20096 .f32) (x1 : Vec Ideal S1x4x20096 .f32) (c : Fin 91) : ℕ → ℕ → Prop :=
  Clash (boxOf x0 x1 c 0) (boxOf x0 x1 c 1) (boxOf x0 x1 c 2) (boxOf x0 x1 c 3)

/-- The entry of rank `j` of class `c` is above the threshold. -/
def above (x0 : Vec Ideal S1x91x20096 .f32) (c : Fin 91) (j : ℕ) : Prop := thresh < rowS x0 c (pick x0 c j)

/-- The suppression loop's result. -/
theorem keepOf_at (x0 : Vec Ideal S1x91x20096 .f32) (x1 : Vec Ideal S1x4x20096 .f32) (c : Fin 91) (j : Fin 256) :
    keepOf (sel x0 x1) (ix2 c j) = if j.val < 200 ∧ keepAt (clash x0 x1 c) (above x0 c) 200 j then 1#32 else 0#32 := by
  have hs := sel_inv x0 x1
  generalize sel x0 x1 = s at hs
  have key := tripFold_induct (g2 (F := Ideal) slotIota s.2.2.1 s.2.2.2.1 s.2.2.2.2.1 s.2.2.2.2.2) (k0_pay40 s.2.1)
    (fun k a => ∀ j : Fin 256, a (ix2 c j) = if j.val < 200 ∧ keepAt (clash x0 x1 c) (above x0 c) k j then 1#32 else 0#32) ?_ ?_
  · exact trips2 ▸ key j
  · intro j
    pointwise [k0_pay40]
    rw [hs.top c j, ofBool_bit]
    by_cases hj : j.val < 200
    · simp only [hj, if_true, true_and]
      have hA : keepAt (clash x0 x1 c) (above x0 c) 0 j ↔ Ideal.ofBits .f32 0x3D4CCCCD#32 < rowS x0 c (pick x0 c j) := Iff.rfl
      simp only [hA]
      split_ifs <;> rfl
    · simp only [hj, if_false, false_and]
      rw [if_neg]
      · rfl
      · rw [not_lt]
        refine le_of_lt (lt_trans ?_ lit_thresh_pos)
        rw [negThree, lit_neg_three]; exact_mod_cast (by norm_num : (-3 : ℝ) < 0)
  · intro k a ih j
    by_cases hj : j.val < 200
    · refine (g2_at _ _ _ _ k c (boxOf x0 x1 c 0) (boxOf x0 x1 c 1) (boxOf x0 x1 c 2) (boxOf x0 x1 c 3) ?_ ?_ ?_ ?_ a j hj (keepAt (clash x0 x1 c) (above x0 c) k) ?_).trans ?_
      · intro i hi; rw [hs.cy1 c i, if_pos hi]; rfl
      · intro i hi; rw [hs.cx1 c i, if_pos hi]; rfl
      · intro i hi; rw [hs.cy2 c i, if_pos hi]; rfl
      · intro i hi; rw [hs.cx2 c i, if_pos hi]; rfl
      · intro i hi; rw [ih i]; simp only [hi, true_and]
      · simp only [hj, true_and, keepAt, clash]; congr
    · rw [if_neg (fun h => hj h.1)]
      refine g2_zero _ _ _ _ k c a j ?_
      rw [ih j, if_neg (fun h => hj h.1)]

/-- The kept scores: the score of its rank where a slot is kept, -1 elsewhere. -/
theorem fs_at (x0 : Vec Ideal S1x91x20096 .f32) (x1 : Vec Ideal S1x4x20096 .f32) (c : Fin 91) (j : Fin 256) :
    k0_pay42 (F := Ideal) (sel x0 x1).2.1 (keepOf (sel x0 x1)) (ix2 c j)
      = if j.val < 200 ∧ keepAt (clash x0 x1 c) (above x0 c) 200 j then rowS x0 c (pick x0 c j) else negOne := by
  pointwise [k0_pay42]
  rw [keepOf_at, cmpi_sgt_bit, (sel_inv x0 x1).top c j]
  by_cases h : j.val < 200 ∧ keepAt (clash x0 x1 c) (above x0 c) 200 j
  · rw [if_pos h, if_pos h, if_pos h.1]; rfl
  · rw [if_neg h, if_neg h]; rfl

end Cert.KernelIdeal.Hand
-- ==== Proof.Merge.lean ====
/-
  Hand-written. The greatest entries of a table of classes by slots, taken from the whole table or from a shortened table
  that holds per class only its `R` greatest entries: above a threshold both hold the same entries, rank by rank.
-/
module

public import proofs.«01_k».proof.Proof.Order

@[expose] public section

noncomputable section

namespace Cert.Hand

open Idealize.ShloMosaic
open scoped Classical

variable {C K K' R : ℕ} [NeZero K']

/-- The row-major position of entry `(c, k)` of a table with rows of `K`. -/
def flatPos (C K : ℕ) (p : Fin C × Fin K) : ℕ := p.1.val * K + p.2.val

/-- Row-major positions tell the entries apart. -/
theorem flatPos_injective (C K : ℕ) : Function.Injective (flatPos C K) := by
  rintro ⟨c, k⟩ ⟨c', k'⟩ h
  have hk := k.isLt
  have hk' := k'.isLt
  unfold flatPos at h
  simp only at h
  have hc : c.val = c'.val := by
    rcases lt_trichotomy c.val c'.val with h1 | h1 | h1
    · have : (c.val + 1) * K ≤ c'.val * K := Nat.mul_le_mul_right _ h1
      rw [Nat.add_mul, Nat.one_mul] at this; omega
    · exact h1
    · have : (c'.val + 1) * K ≤ c.val * K := Nat.mul_le_mul_right _ h1
      rw [Nat.add_mul, Nat.one_mul] at this; omega
  rw [hc] at h
  have : k.val = k'.val := by omega
  exact Prod.ext (Fin.ext hc) (Fin.ext this)

/-- Row-major positions compare by row and then column. -/
theorem flatPos_lt (c c' : Fin C) (k k' : Fin K) : flatPos C K (c, k) < flatPos C K (c', k') ↔ c < c' ∨ (c = c' ∧ k < k') := by
  have hk := k.isLt
  have hk' := k'.isLt
  unfold flatPos
  simp only
  rcases lt_trichotomy c c' with h1 | h1 | h1
  · have h2 : c.val < c'.val := h1
    have : (c.val + 1) * K ≤ c'.val * K := Nat.mul_le_mul_right _ h2
    rw [Nat.add_mul, Nat.one_mul] at this
    exact ⟨fun _ => .inl h1, fun _ => by omega⟩
  · subst h1
    refine ⟨fun h => .inr ⟨rfl, by show k.val < k'.val; omega⟩, ?_⟩
    rintro (h | ⟨_, h⟩)
    · exact absurd h (lt_irrefl _)
    · have : k.val < k'.val := h
      omega
  · have h2 : c'.val < c.val := h1
    have : (c'.val + 1) * K ≤ c.val * K := Nat.mul_le_mul_right _ h2
    rw [Nat.add_mul, Nat.one_mul] at this
    refine ⟨fun h => by omega, ?_⟩
    rintro (h | ⟨h, _⟩)
    · exact absurd h (not_lt.mpr h1.le)
    · exact absurd h h1.ne'

variable (hK : K' ≤ K) (hR : R ≤ K') (fs : Fin C × Fin K → EReal)

/-- Row `c` of the table, its live slots only. -/
def rowOf (c : Fin C) (k : Fin K') : EReal := fs (c, k.castLE hK)

/-- The live slot of rank `r` in row `c`. -/
def slotOf (c : Fin C) (r : Fin R) : Fin K' := ranked Fin.val (rowOf hK fs c) r.val

/-- Where the shortened table's entry lies in the whole table. -/
def liftOf (y : Fin C × Fin R) : Fin C × Fin K := (y.1, (slotOf hK fs y.1 y.2).castLE hK)

/-- The shortened table: per class its `R` greatest live entries. -/
def shortOf (y : Fin C × Fin R) : EReal := fs (liftOf hK fs y)

include hR in
/-- The slot of rank `r` has rank `r`. -/
theorem rank_slotOf (c : Fin C) (r : Fin R) : rank Fin.val (rowOf hK fs c) (slotOf hK fs c r) = r.val :=
  rank_ranked Fin.val_injective (by have := r.isLt; simp only [Fintype.card_fin]; omega)

include hR in
/-- The shortened table's entries compare as the whole table's. -/
theorem before_liftOf (y z : Fin C × Fin R) :
    Before (flatPos C K) fs (liftOf hK fs y) (liftOf hK fs z) ↔ Before (flatPos C R) (shortOf hK fs) y z := by
  obtain ⟨c, r⟩ := y
  obtain ⟨c', r'⟩ := z
  unfold Before
  refine or_congr Iff.rfl (and_congr_right fun he => ?_)
  unfold liftOf
  rw [flatPos_lt, flatPos_lt]
  refine or_congr Iff.rfl (and_congr_right fun hc => ?_)
  have hc' : c = c' := hc
  subst hc'
  have he' : rowOf hK fs c (slotOf hK fs c r) = rowOf hK fs c (slotOf hK fs c r') := he
  have h1 := before_iff (a := rowOf hK fs c) Fin.val_injective (m := slotOf hK fs c r) (n := slotOf hK fs c r')
  rw [rank_slotOf hK hR, rank_slotOf hK hR] at h1
  have h2 : Before Fin.val (rowOf hK fs c) (slotOf hK fs c r) (slotOf hK fs c r') ↔ (slotOf hK fs c r).val < (slotOf hK fs c r').val := by
    unfold Before
    rw [he']
    simp
  rw [h2] at h1
  exact h1

include hR in
/-- Distinct entries of the shortened table lie at distinct places. -/
theorem liftOf_injective : Function.Injective (liftOf (R := R) hK fs) := fun y z h => by
  by_contra e
  rcases Before.total (a := shortOf (R := R) hK fs) (flatPos_injective C R) e with h' | h'
  · rw [← before_liftOf hK hR, h] at h'; exact Before.irrefl _ h'
  · rw [← before_liftOf hK hR, h] at h'; exact Before.irrefl _ h'

include hR in
/-- An entry's rank in the shortened table is at most its rank in the whole table. -/
theorem rank_short_le (y : Fin C × Fin R) : rank (flatPos C R) (shortOf hK fs) y ≤ rank (flatPos C K) fs (liftOf hK fs y) := by
  unfold rank
  refine Finset.card_le_card_of_injOn (liftOf hK fs) (fun z hz => ?_) (fun z _ z' _ h => liftOf_injective hK hR fs h)
  simp only [Finset.coe_filter, Finset.mem_univ, true_and, Set.mem_setOf_eq] at hz ⊢
  exact (before_liftOf hK hR fs z y).mpr hz

/-- A live entry's rank in its row is at most its rank in the whole table. -/
theorem rank_row_le (c : Fin C) (k : Fin K') : rank Fin.val (rowOf hK fs c) k ≤ rank (flatPos C K) fs (c, k.castLE hK) := by
  unfold rank
  refine Finset.card_le_card_of_injOn (fun l : Fin K' => ((c, l.castLE hK) : Fin C × Fin K)) (fun l hl => ?_) (fun l _ l' _ h => ?_)
  · simp only [Finset.coe_filter, Finset.mem_univ, true_and, Set.mem_setOf_eq] at hl ⊢
    rcases hl with h | ⟨h, h'⟩
    · exact .inl h
    · exact .inr ⟨h, (flatPos_lt _ _ _ _).mpr (.inr ⟨rfl, h'⟩)⟩
  · have := congrArg (fun p : Fin C × Fin K => p.2.val) h
    exact Fin.ext this

variable {t : EReal} (hd : ∀ c (k : Fin K), K' ≤ k.val → fs (c, k) ≤ t)

include hR hd in
/-- An entry above the threshold of rank below `R` is in the shortened table. -/
theorem mem_short {x : Fin C × Fin K} (hx : t < fs x) (hr : rank (flatPos C K) fs x < R) : ∃ y, liftOf (R := R) hK fs y = x := by
  obtain ⟨c, k⟩ := x
  have hk : k.val < K' := by
    by_contra h
    exact absurd hx (not_lt.mpr (hd c k (by omega)))
  have h1 : rank Fin.val (rowOf hK fs c) ⟨k.val, hk⟩ < R := lt_of_le_of_lt (rank_row_le hK fs c ⟨k.val, hk⟩) hr
  refine ⟨(c, ⟨_, h1⟩), ?_⟩
  unfold liftOf slotOf
  simp only
  rw [ranked_rank Fin.val_injective]
  rfl

include hR hd in
/-- An entry above the threshold of rank below `R` has the same rank in both tables. -/
theorem rank_short_eq {y : Fin C × Fin R} (hy : t < shortOf hK fs y) (hr : rank (flatPos C K) fs (liftOf hK fs y) < R) :
    rank (flatPos C R) (shortOf hK fs) y = rank (flatPos C K) fs (liftOf hK fs y) := by
  refine le_antisymm (rank_short_le hK hR fs y) ?_
  have hsub : (Finset.univ.filter fun m => Before (flatPos C K) fs m (liftOf hK fs y))
      ⊆ (Finset.univ.filter fun z => Before (flatPos C R) (shortOf hK fs) z y).image (liftOf hK fs) := by
    intro x hx
    simp only [Finset.mem_filter, Finset.mem_univ, true_and] at hx
    obtain ⟨z, rfl⟩ := mem_short hK hR fs hd (x := x) (lt_of_lt_of_le hy hx.le) ((rank_lt_of_before hx).trans hr)
    refine Finset.mem_image_of_mem _ ?_
    simp only [Finset.mem_filter, Finset.mem_univ, true_and]
    exact (before_liftOf hK hR fs z y).mp hx
  exact (Finset.card_le_card hsub).trans Finset.card_image_le

include hR hd in
/-- THE MERGE: for a rank below `R`, the two tables' entries of that rank are above the threshold together, and then the one
    is where the other lies. -/
theorem merge_eq {j : ℕ} (hj : j < R) {x : Fin C × Fin K} {y : Fin C × Fin R} (hx : rank (flatPos C K) fs x = j)
    (hy : rank (flatPos C R) (shortOf hK fs) y = j) : (t < fs x ↔ t < shortOf hK fs y) ∧ (t < fs x → x = liftOf hK fs y) := by
  have key : t < fs x → x = liftOf hK fs y := fun h => by
    obtain ⟨z, rfl⟩ := mem_short hK hR fs hd h (by omega)
    have h1 := rank_short_eq hK hR fs hd (y := z) h (by omega)
    have h2 : z = y := rank_injective (flatPos_injective C R) (a := shortOf (R := R) hK fs) (by omega)
    rw [h2]
  refine ⟨⟨fun h => lt_of_lt_of_eq h (congrArg fs (key h)), fun h => ?_⟩, key⟩
  have h1 := rank_short_le hK hR fs y
  exact lt_of_lt_of_le h (le_of_rank_le (flatPos_injective C K) (by omega))

end Cert.Hand

end
-- ==== Proof.MergeValue.lean ====
/-
  Hand-written. The kernel's merge loop at the extended reals: after its trips lane `l` holds the score, the box and the
  class of the slot of rank `l` among the kept scores of all classes, in row-major order.
-/
module

public import proofs.«01_k».proof.Proof.KeepValue
public import proofs.«01_k».proof.Proof.Merge
public import Idealize.ShloMosaic.Lib.Routing.Words

@[expose] public section

set_option maxRecDepth 16384

noncomputable section

namespace Cert.KernelIdeal.Hand

open Cert.KernelIdeal Cert.KernelIdeal.Gen
open Idealize.ShloMosaic Idealize.ShloMosaic.TcCoe
open Cert.Hand

/-- The value of a cleared kept score. -/
abbrev negFour : EReal := Ideal.ofBits .f32 0xC0800000#32
/-- The value an unused lane's score starts with. -/
abbrev negNine : EReal := Ideal.ofBits .f32 0xC1100000#32

/-- The loop makes 100 trips. -/
theorem trips3 : k0_t3_loop.trips = 100 := by decide +kernel

/-- The flat numbers are the row-major positions. -/
theorem flatIota_at (c : Fin 91) (n : Fin 256) : flatIota (ix2 c n) = BitVec.ofNat 32 (flatPos 91 256 (c, n)) := by
  pointwise [k0_pay43]
  change BitVec.ofNat 32 c.val * 256#32 + BitVec.ofNat 32 n.val = _
  rw [flatPos, BitVec.ofNat_add, BitVec.ofNat_mul]

/-- A row-major position is small. -/
theorem flatPos_small (p : Fin 91 × Fin 256) : flatPos 91 256 p < 2 ^ 30 := by
  have h1 := p.1.isLt; have h2 := p.2.isLt
  unfold flatPos; omega

/-- The class of a picked flat number, as the kernel's words compute it: the quotient by 256 rounded down. -/
theorem classWord (q : ℕ) (hq : q < 2 ^ 30) :
    Scalar.select (Scalar.andi (Scalar.cmpi .ne
        (Scalar.subi (Scalar.extui (Scalar.cmpi .sgt (BitVec.ofNat 32 q) 0#32) : BitVec 32) (Scalar.extui (Scalar.cmpi .slt (BitVec.ofNat 32 q) 0#32) : BitVec 32))
        (Scalar.subi (Scalar.extui (Scalar.cmpi .sgt 256#32 0#32) : BitVec 32) (Scalar.extui (Scalar.cmpi .slt 256#32 0#32) : BitVec 32)))
        (Scalar.cmpi .ne (Scalar.remsi (BitVec.ofNat 32 q) 256#32) 0#32))
      (Scalar.subi (Scalar.divsi (BitVec.ofNat 32 q) 256#32) 1#32) (Scalar.divsi (BitVec.ofNat 32 q) 256#32) = BitVec.ofNat 32 (q / 256) := by
  have hd : Scalar.divsi (BitVec.ofNat 32 q) 256#32 = BitVec.ofNat 32 (q / 256) :=
    Routing.divsi_word .scalar (by omega) (by omega : 0 < 256) (by omega)
  have hm : Scalar.remsi (BitVec.ofNat 32 q) 256#32 = BitVec.ofNat 32 (q % 256) :=
    Routing.remsi_word .scalar (by omega) (by omega : 0 < 256) (by omega)
  rw [hd, hm]
  rcases Nat.eq_zero_or_pos q with h | h
  · subst h; decide
  · have e1 : Scalar.cmpi .sgt (BitVec.ofNat 32 q) 0#32 = 1#1 := by
      have := cmpi_sgt_ofNat (a := q) (b := 0) (by omega) (by omega)
      rw [if_pos h] at this; exact this
    have e2 : Scalar.cmpi .slt (BitVec.ofNat 32 q) 0#32 = 0#1 := by
      have := cmpi_sgt_ofNat (a := 0) (b := q) (by omega) (by omega)
      rw [if_neg (by omega)] at this; exact this
    rw [e1, e2]
    have e3 : ∀ z : BitVec 1, Scalar.andi (Scalar.cmpi .ne
        (Scalar.subi (Scalar.extui 1#1 : BitVec 32) (Scalar.extui 0#1 : BitVec 32))
        (Scalar.subi (Scalar.extui (Scalar.cmpi .sgt 256#32 0#32) : BitVec 32) (Scalar.extui (Scalar.cmpi .slt 256#32 0#32) : BitVec 32))) z = 0#1 := by decide
    rw [e3]; rfl

section Step
variable (a : FVec Ideal S91x256 .f32) (p : Fin 91 × Fin 256)
  (h : FirstMax (flatPos 91 256) (fun q : Fin 91 × Fin 256 => a (ix2 q.1 q.2)) p)
include h

/-- The greatest kept score. -/
theorem pay14_at : k0_pay14 (F := Ideal) a = a (ix2 p.1 p.2) := by
  pointwise [k0_pay14]
  rw [lit_neg_inf]
  exact fold_max_first h

/-- The least flat number of a greatest kept score. -/
theorem pay15_at : k0_pay15 (F := Ideal) flatIota a (ix3 0 0 0) = BitVec.ofNat 32 (flatPos 91 256 p) := by
  pointwise [k0_pay15]
  rw [pay14_at a p h]
  simp only [flatIota_at]
  exact fold_minsi_first flatPos_small h

/-- The picked word. -/
theorem pickWord_at : pickWord flatIota a = BitVec.ofNat 32 (flatPos 91 256 p) := by
  refine Eq.trans ?_ (pay15_at a p h)
  unfold pickWord
  pointwise

/-- The one-hot table marks the picked slot. -/
theorem pay16_at (c : Fin 91) (n : Fin 256) : k0_pay16 (F := Ideal) flatIota a (ix2 c n) = if (c, n) = p then 1#1 else 0#1 := by
  pointwise [k0_pay16]
  rw [pay15_at a p h, flatIota_at, cmpi_eq_ofNat (by have := flatPos_small (c, n); omega) (by have := flatPos_small p; omega)]
  simp only [(flatPos_injective 91 256).eq_iff]

/-- The one-hot table as numbers. -/
theorem pay17_at (c : Fin 91) (n : Fin 256) : k0_pay17 (F := Ideal) flatIota a (ix2 c n) = if (c, n) = p then (1 : EReal) else 0 := by
  pointwise [k0_pay17]
  rw [pay16_at a p h]
  exact bit_toReal ((c, n) = p)

/-- The picked slot's first coordinate. -/
theorem pay18_at (y : FVec Ideal S91x256 .f32) : k0_pay18 (F := Ideal) y flatIota a = y (ix2 p.1 p.2) := by
  pointwise [k0_pay18]
  simp only [pay17_at a p h]
  exact sum_oneHot2 p fun c n => (show EReal from y (ix2 c n))
/-- The picked slot's second coordinate. -/
theorem pay19_at (y : FVec Ideal S91x256 .f32) : k0_pay19 (F := Ideal) y flatIota a = y (ix2 p.1 p.2) := by
  pointwise [k0_pay19]
  simp only [pay17_at a p h]
  exact sum_oneHot2 p fun c n => (show EReal from y (ix2 c n))
/-- The picked slot's third coordinate. -/
theorem pay20_at (y : FVec Ideal S91x256 .f32) : k0_pay20 (F := Ideal) y flatIota a = y (ix2 p.1 p.2) := by
  pointwise [k0_pay20]
  simp only [pay17_at a p h]
  exact sum_oneHot2 p fun c n => (show EReal from y (ix2 c n))
/-- The picked slot's fourth coordinate. -/
theorem pay21_at (y : FVec Ideal S91x256 .f32) : k0_pay21 (F := Ideal) y flatIota a = y (ix2 p.1 p.2) := by
  pointwise [k0_pay21]
  simp only [pay17_at a p h]
  exact sum_oneHot2 p fun c n => (show EReal from y (ix2 c n))

/-- The kept scores after the trip: the picked one cleared. -/
theorem pay50_at (c : Fin 91) (n : Fin 256) :
    k0_pay50 (F := Ideal) a (k0_pay16 flatIota a) (ix2 c n) = if (c, n) = p then negFour else a (ix2 c n) := by
  pointwise [k0_pay50]
  rw [pay16_at a p h]
  split_ifs <;> rfl

/-- The class lanes after trip `k`. -/
theorem pay57_at (k : Fin k0_t3_loop.trips) (z : IVec S1x128 32) (l : Fin 128) :
    k0_pay57 z (Scf.iv 0#32 1#32 k) (pickWord flatIota a) 256#32 (Scalar.divsi (pickWord flatIota a) 256#32)
      (Scalar.subi (Scalar.extui (Scalar.cmpi .sgt (pickWord flatIota a) 0#32) : BitVec 32) (Scalar.extui (Scalar.cmpi .slt (pickWord flatIota a) 0#32) : BitVec 32))
      (Scalar.subi (Scalar.extui (Scalar.cmpi .sgt 256#32 0#32) : BitVec 32) (Scalar.extui (Scalar.cmpi .slt 256#32 0#32) : BitVec 32)) (ix2 0 l)
    = if l.val = k.val then BitVec.ofNat 32 p.1.val else z (ix2 0 l) := by
  have hk : k.val < 100 := lt_of_lt_of_eq k.isLt trips3
  pointwise [k0_pay57, k0_pay51]
  rw [pickWord_at a p h, classWord _ (flatPos_small p), iv_ofNat, cmpi_eq_ofNat (by omega) (by omega)]
  have : flatPos 91 256 p / 256 = p.1.val := by
    have h2 := p.2.isLt
    unfold flatPos; omega
  rw [this]
  split_ifs <;> rfl

end Step

section Lanes
variable (k : Fin k0_t3_loop.trips) (o : FVec Ideal S1x128 .f32) (v : EReal) (l : Fin 128)

/-- The score lanes after trip `k`. -/
theorem pay52_at : k0_pay52 (F := Ideal) o (Scf.iv 0#32 1#32 k) v (ix2 0 l) = if l.val = k.val then v else o (ix2 0 l) := by
  have hk : k.val < 100 := lt_of_lt_of_eq k.isLt trips3
  pointwise [k0_pay52, k0_pay51]
  rw [iv_ofNat, cmpi_eq_ofNat (by omega) (by omega)]
  split_ifs <;> rfl
/-- The first coordinates' lanes after trip `k`. -/
theorem pay53_at : k0_pay53 (F := Ideal) o (Scf.iv 0#32 1#32 k) v (ix2 0 l) = if l.val = k.val then v else o (ix2 0 l) := by
  have hk : k.val < 100 := lt_of_lt_of_eq k.isLt trips3
  pointwise [k0_pay53, k0_pay51]
  rw [iv_ofNat, cmpi_eq_ofNat (by omega) (by omega)]
  split_ifs <;> rfl
/-- The second coordinates' lanes after trip `k`. -/
theorem pay54_at : k0_pay54 (F := Ideal) o (Scf.iv 0#32 1#32 k) v (ix2 0 l) = if l.val = k.val then v else o (ix2 0 l) := by
  have hk : k.val < 100 := lt_of_lt_of_eq k.isLt trips3
  pointwise [k0_pay54, k0_pay51]
  rw [iv_ofNat, cmpi_eq_ofNat (by omega) (by omega)]
  split_ifs <;> rfl
/-- The third coordinates' lanes after trip `k`. -/
theorem pay55_at : k0_pay55 (F := Ideal) o (Scf.iv 0#32 1#32 k) v (ix2 0 l) = if l.val = k.val then v else o (ix2 0 l) := by
  have hk : k.val < 100 := lt_of_lt_of_eq k.isLt trips3
  pointwise [k0_pay55, k0_pay51]
  rw [iv_ofNat, cmpi_eq_ofNat (by omega) (by omega)]
  split_ifs <;> rfl
/-- The fourth coordinates' lanes after trip `k`. -/
theorem pay56_at : k0_pay56 (F := Ideal) o (Scf.iv 0#32 1#32 k) v (ix2 0 l) = if l.val = k.val then v else o (ix2 0 l) := by
  have hk : k.val < 100 := lt_of_lt_of_eq k.isLt trips3
  pointwise [k0_pay56, k0_pay51]
  rw [iv_ofNat, cmpi_eq_ofNat (by omega) (by omega)]
  split_ifs <;> rfl
end Lanes

/-- The slot of rank `l` among the kept scores `fs` of all classes. -/
def best (fs : Fin 91 × Fin 256 → EReal) (l : ℕ) : Fin 91 × Fin 256 := ranked (flatPos 91 256) fs l

/-- What the merge loop carries after `k` trips: the kept scores with the first `k` ranks cleared, and lanes below `k`
    holding the slots of their ranks. -/
structure MrgInv (fs : Fin 91 × Fin 256 → EReal) (y1 x1 y2 x2 : FVec Ideal S91x256 .f32) (k : ℕ) (a : St3 Ideal) : Prop where
  score : ∀ (c : Fin 91) (n : Fin 256), a.1 (ix2 c n) = cleared (flatPos 91 256) fs negFour k (c, n)
  top : ∀ l : Fin 128, a.2.1 (ix2 0 l) = if l.val < k then fs (best fs l) else negNine
  cy1 : ∀ l : Fin 128, a.2.2.1 (ix2 0 l) = if l.val < k then y1 (ix2 (best fs l).1 (best fs l).2) else (0 : EReal)
  cx1 : ∀ l : Fin 128, a.2.2.2.1 (ix2 0 l) = if l.val < k then x1 (ix2 (best fs l).1 (best fs l).2) else (0 : EReal)
  cy2 : ∀ l : Fin 128, a.2.2.2.2.1 (ix2 0 l) = if l.val < k then y2 (ix2 (best fs l).1 (best fs l).2) else (0 : EReal)
  cx2 : ∀ l : Fin 128, a.2.2.2.2.2.1 (ix2 0 l) = if l.val < k then x2 (ix2 (best fs l).1 (best fs l).2) else (0 : EReal)
  cls : ∀ l : Fin 128, a.2.2.2.2.2.2 (ix2 0 l) = if l.val < k then BitVec.ofNat 32 (best fs l).1.val else 0#32

/-- The merge loop's result from kept scores all greater than a cleared one. -/
theorem mrg_inv (fv y1 x1 y2 x2 : FVec Ideal S91x256 .f32) (fs : Fin 91 × Fin 256 → EReal) (hfs : ∀ c n, fv (ix2 c n) = fs (c, n))
    (hl : ∀ q, negFour < fs q) : MrgInv fs y1 x1 y2 x2 100 (tripFold (g3 (F := Ideal) flatIota y1 x1 y2 x2) (init3 fv)) := by
  have := tripFold_induct (g3 (F := Ideal) flatIota y1 x1 y2 x2) (init3 fv) (MrgInv fs y1 x1 y2 x2) ?_ ?_
  · exact trips3 ▸ this
  · refine ⟨fun c n => ?_, fun l => ?_, fun l => ?_, fun l => ?_, fun l => ?_, fun l => ?_, fun l => ?_⟩
    · rw [cleared_zero]; exact hfs c n
    · unfold init3; pointwise [k0_pay44]; simp
    · unfold init3; pointwise [k0_pay45]; simp
    · unfold init3; pointwise [k0_pay46]; simp
    · unfold init3; pointwise [k0_pay47]; simp
    · unfold init3; pointwise [k0_pay48]; simp
    · unfold init3; pointwise [k0_pay49]; simp
  · intro k a ih
    have hk : k.val < 100 := lt_of_lt_of_eq k.isLt trips3
    have hr : rank (flatPos 91 256) fs (best fs k) = k.val :=
      rank_ranked (flatPos_injective 91 256) (by rw [Fintype.card_prod, Fintype.card_fin, Fintype.card_fin]; omega)
    have hf := firstMax_cleared (flatPos_injective 91 256) hl hr
    have hm : FirstMax (flatPos 91 256) (fun q : Fin 91 × Fin 256 => a.1 (ix2 q.1 q.2)) (best fs k) := by
      have : (fun q : Fin 91 × Fin 256 => a.1 (ix2 q.1 q.2)) = cleared (flatPos 91 256) fs negFour k := funext fun q => ih.score q.1 q.2
      rw [this]; exact hf.1
    refine ⟨fun c n => ?_, fun l => ?_, fun l => ?_, fun l => ?_, fun l => ?_, fun l => ?_, fun l => ?_⟩
    · have e := pay50_at a.1 _ hm c n
      rw [cleared_succ (flatPos_injective 91 256) hr (c, n)]
      unfold g3; dsimp only; rw [e]
      by_cases e' : (c, n) = best fs k
      · rw [if_pos e', if_pos e']
      · rw [if_neg e', if_neg e']; exact ih.score c n
    · unfold g3; dsimp only
      rw [pay52_at, pay14_at a.1 _ hm, ih.top l]
      exact slot_step (fun i => fs (best fs i)) _ _ _ _ ((ih.score _ _).trans hf.2)
    · unfold g3; dsimp only
      rw [pay53_at, pay18_at a.1 _ hm, ih.cy1 l]
      exact slot_step (fun i => (show EReal from y1 (ix2 (best fs i).1 (best fs i).2))) _ _ _ _ rfl
    · unfold g3; dsimp only
      rw [pay54_at, pay19_at a.1 _ hm, ih.cx1 l]
      exact slot_step (fun i => (show EReal from x1 (ix2 (best fs i).1 (best fs i).2))) _ _ _ _ rfl
    · unfold g3; dsimp only
      rw [pay55_at, pay20_at a.1 _ hm, ih.cy2 l]
      exact slot_step (fun i => (show EReal from y2 (ix2 (best fs i).1 (best fs i).2))) _ _ _ _ rfl
    · unfold g3; dsimp only
      rw [pay56_at, pay21_at a.1 _ hm, ih.cx2 l]
      exact slot_step (fun i => (show EReal from x2 (ix2 (best fs i).1 (best fs i).2))) _ _ _ _ rfl
    · unfold g3; dsimp only
      rw [pay57_at a.1 _ hm, ih.cls l]
      exact slot_step (fun i => BitVec.ofNat 32 (best fs i).1.val) _ _ _ _ rfl

end Cert.KernelIdeal.Hand
-- ==== Proof.Spec.lean ====
/-
  Hand-written. What one image's detection is, as mathematics over the image's scores `S` (by class and box) and boxes
  `B` (by box and coordinate): per class the 200 greatest thresholded scores, greedy suppression among their boxes, and
  the 100 greatest kept scores over all classes.
-/
module

public import proofs.«01_k».proof.Proof.Keep
public import proofs.«01_k».proof.Proof.Merge
public import proofs.«01_k».proof.Proof.OneHot
public import Mathlib.Data.BitVec

@[expose] public section

noncomputable section

namespace Cert.Hand

open Idealize.ShloMosaic
open scoped Classical

/-! ## Ranks across a change of index set -/

/-- Entries at the end of a row that never come before an earlier one leave the earlier ones' ranks unchanged. -/
theorem rank_pad {N M : ℕ} (h : N ≤ M) (a : Fin M → EReal) (hp : ∀ (m : Fin M) (n : Fin N), N ≤ m.val → a m ≤ a (n.castLE h)) (n : Fin N) :
    rank Fin.val a (n.castLE h) = rank Fin.val (fun k : Fin N => a (k.castLE h)) n := by
  unfold rank
  symm
  refine Finset.card_bij (fun k _ => k.castLE h) ?_ ?_ ?_
  · intro k hk
    simp only [Finset.mem_filter, Finset.mem_univ, true_and] at hk ⊢
    exact hk
  · intro k _ k' _ e
    exact Fin.castLE_injective h e
  · intro m hm
    simp only [Finset.mem_filter, Finset.mem_univ, true_and] at hm
    by_cases hmN : m.val < N
    · refine ⟨⟨m.val, hmN⟩, ?_, Fin.ext rfl⟩
      simp only [Finset.mem_filter, Finset.mem_univ, true_and]
      exact hm
    · exfalso
      rcases hm with h' | ⟨_, h'⟩
      · exact absurd h' (not_lt.mpr (hp m n (by omega)))
      · have := n.isLt
        simp only [Fin.val_castLE] at h'
        omega

/-- Ranks are the same along a bijection that respects positions. -/
theorem rank_equiv {ι κ : Type} [Fintype ι] [Fintype κ] (e : ι ≃ κ) {pos : ι → ℕ} {pos' : κ → ℕ} (hp : ∀ i, pos' (e i) = pos i) (a : κ → EReal) (i : ι) :
    rank pos' a (e i) = rank pos (fun j => a (e j)) i := by
  unfold rank
  symm
  refine Finset.card_bij (fun k _ => e k) ?_ ?_ ?_
  · intro k hk
    simp only [Finset.mem_filter, Finset.mem_univ, true_and] at hk ⊢
    unfold Before at hk ⊢
    rw [hp, hp]; exact hk
  · intro k _ k' _ h
    exact e.injective h
  · intro m hm
    simp only [Finset.mem_filter, Finset.mem_univ, true_and] at hm
    refine ⟨e.symm m, ?_, e.apply_symm_apply m⟩
    simp only [Finset.mem_filter, Finset.mem_univ, true_and]
    unfold Before at hm ⊢
    simp only [← hp, e.apply_symm_apply]; exact hm

/-- Rounds of suppression depend on the first boxes' clashes only. -/
theorem keepAt_congr {N : ℕ} {c c' : ℕ → ℕ → Prop} {v v' : ℕ → Prop} (hc : ∀ i j, i < N → j < N → (c i j ↔ c' i j))
    (hv : ∀ j, j < N → (v j ↔ v' j)) : ∀ k j, k ≤ N → j < N → (keepAt c v k j ↔ keepAt c' v' k j)
  | 0, j, _, hj => hv j hj
  | k + 1, j, hk, hj => by
    have h1 := keepAt_congr hc hv k j (by omega) hj
    have h2 := keepAt_congr hc hv k k (by omega) (by omega)
    simp only [keepAt, h1, h2, hc k j (by omega) hj]

/-! ## The detection -/

/-- The score threshold. -/
abbrev cut : EReal := Ideal.ofBits .f32 0x3D4CCCCD#32
/-- The value of a score that is not above the threshold, or not kept. -/
abbrev dropped : EReal := Ideal.ofBits .f32 0xBF800000#32

variable (S : Fin 91 → Fin 20000 → EReal) (B : Fin 20000 → Fin 4 → EReal)

/-- The thresholded scores of a class. -/
def rowR (c : Fin 91) (n : Fin 20000) : EReal := if cut < S c n then S c n else dropped
/-- The box of rank `k` in class `c`. -/
def pickR (c : Fin 91) (k : ℕ) : Fin 20000 := ranked Fin.val (rowR S c) k
/-- Coordinate `r` of the box of rank `k` in class `c`. -/
def boxR (c : Fin 91) (r : Fin 4) (k : ℕ) : EReal := B (pickR S c k) r
/-- The boxes of ranks `i` and `j` in class `c` clash. -/
def clashR (c : Fin 91) : ℕ → ℕ → Prop := Clash (boxR S B c 0) (boxR S B c 1) (boxR S B c 2) (boxR S B c 3)
/-- The score of rank `j` in class `c` is above the threshold. -/
def aboveR (c : Fin 91) (j : ℕ) : Prop := cut < rowR S c (pickR S c j)
/-- The kept scores by class and rank, in a table with room for 256 ranks. -/
def fsR (q : Fin 91 × Fin 256) : EReal :=
  if q.2.val < 200 ∧ keepAt (clashR S B q.1) (aboveR S q.1) 200 q.2 then rowR S q.1 (pickR S q.1 q.2) else dropped
/-- The class and rank of the detection `l`. -/
def bestR (l : ℕ) : Fin 91 × Fin 256 := ranked (flatPos 91 256) (fsR S B) l
/-- Whether detection `l` is above the threshold. -/
def validR (l : ℕ) : Prop := cut < fsR S B (bestR S B l)
/-- The score of detection `l`. -/
def scoreR (l : ℕ) : EReal := if validR S B l then fsR S B (bestR S B l) else 0
/-- Coordinate `r` of the box of detection `l`. -/
def coordR (r : Fin 4) (l : ℕ) : EReal := if validR S B l then boxR S B (bestR S B l).1 r (bestR S B l).2 else 0
/-- The class of detection `l`. -/
def classR (l : ℕ) : BitVec 32 := if validR S B l then BitVec.ofNat 32 (bestR S B l).1.val else 0#32
/-- How many detections there are. -/
def countR : BitVec 32 := ∑ l : Fin 100, if validR S B l then 1#32 else 0#32

/-- The value of a dropped score is below zero. -/
theorem dropped_lt_zero : dropped < 0 := by
  rw [dropped, lit_neg_one]; exact_mod_cast (by norm_num : (-1 : ℝ) < 0)

/-- The value of a dropped score is below the threshold. -/
theorem dropped_lt_cut : dropped < cut := lt_trans dropped_lt_zero lit_thresh_pos

/-- A thresholded score is at least the dropped value. -/
theorem dropped_le_rowR (c : Fin 91) (n : Fin 20000) : dropped ≤ rowR S c n := by
  unfold rowR
  split_ifs with h
  · exact le_of_lt (lt_trans dropped_lt_cut h)
  · exact le_rfl

/-- A kept score is at least the dropped value. -/
theorem dropped_le_fsR (q : Fin 91 × Fin 256) : dropped ≤ fsR S B q := by
  unfold fsR
  split_ifs
  · exact dropped_le_rowR S _ _
  · exact le_rfl

/-- Ranks from 200 on hold no detection. -/
theorem fsR_high (c : Fin 91) (k : Fin 256) (h : 200 ≤ k.val) : fsR S B (c, k) ≤ cut := by
  unfold fsR
  rw [if_neg (fun h' => by have := h'.1; simp only at this; omega)]
  exact dropped_lt_cut.le

/-- A detection's rank is below 200. -/
theorem validR_lt {l : ℕ} (h : validR S B l) : (bestR S B l).2.val < 200 := by
  by_contra h'
  exact absurd h (not_lt.mpr (fsR_high S B (bestR S B l).1 (bestR S B l).2 (by omega)))

end Cert.Hand
-- ==== Proof.KernelOut.lean ====
/-
  Hand-written. The values the kernel stores for one image, as the detection of the image: the padded score block's
  extra columns are never picked, so ranks in it are ranks among the image's own boxes.
-/
module

public import proofs.«01_k».proof.Proof.MergeValue
public import proofs.«01_k».proof.Proof.Spec

@[expose] public section

set_option maxRecDepth 16384

noncomputable section

namespace Cert.KernelIdeal.Hand

open Cert.KernelIdeal Cert.KernelIdeal.Gen
open Idealize.ShloMosaic Idealize.ShloMosaic.TcCoe
open Cert.Hand
open scoped Classical

/-- The block's columns are the image's. -/
theorem cols : 20000 ≤ 20096 := by omega

section Image
variable (x0 : Vec Ideal S1x91x20096 .f32) (x1 : Vec Ideal S1x4x20096 .f32)
  (S : Fin 91 → Fin 20000 → EReal) (B : Fin 20000 → Fin 4 → EReal)
  (h0 : ∀ c (n : Fin 20000), x0 (ix3 0 c (n.castLE cols)) = S c n)
  (hp : ∀ c (n : Fin 20096), 20000 ≤ n.val → x0 (ix3 0 c n) = negTwo)
  (h1 : ∀ r (n : Fin 20000), x1 (ix3 0 r (n.castLE cols)) = B n r)

include h0 in
/-- The block's thresholded scores are the image's. -/
theorem rowS_castLE (c : Fin 91) (n : Fin 20000) : rowS x0 c (n.castLE cols) = rowR S c n := by
  unfold rowS rowR
  rw [h0]

include hp in
/-- The padding's thresholded scores are the dropped value. -/
theorem rowS_pad (c : Fin 91) (n : Fin 20096) (hn : 20000 ≤ n.val) : rowS x0 c n = dropped := by
  unfold rowS
  rw [hp c n hn, if_neg]
  rw [not_lt]
  refine le_of_lt (lt_trans ?_ lit_thresh_pos)
  rw [negTwo, lit_neg_two]; exact_mod_cast (by norm_num : (-2 : ℝ) < 0)

include h0 hp in
/-- The entry of rank `k` in the block's row is the image's. -/
theorem pick_eq (c : Fin 91) (k : ℕ) (hk : k < 200) : pick x0 c k = (pickR S c k).castLE cols := by
  refine ranked_eq Fin.val_injective ?_
  rw [rank_pad cols]
  · have e : (fun n : Fin 20000 => rowS x0 c (n.castLE cols)) = rowR S c := funext fun n => rowS_castLE x0 S h0 c n
    rw [e]
    exact rank_ranked Fin.val_injective (by rw [Fintype.card_fin]; omega)
  · intro m n hm
    rw [rowS_pad x0 hp c m hm]
    exact negOne_le_rowS x0 c _

include h0 hp in
/-- The score of rank `k`. -/
theorem rowS_pick (c : Fin 91) (k : ℕ) (hk : k < 200) : rowS x0 c (pick x0 c k) = rowR S c (pickR S c k) := by
  rw [pick_eq x0 S h0 hp c k hk, rowS_castLE x0 S h0]

include h0 hp h1 in
/-- The box of rank `k`. -/
theorem boxOf_eq (c : Fin 91) (r : Fin 4) (k : ℕ) (hk : k < 200) : boxOf x0 x1 c r k = boxR S B c r k := by
  unfold boxOf boxR
  rw [pick_eq x0 S h0 hp c k hk]
  exact h1 r _

include h0 hp h1 in
/-- What is kept. -/
theorem keep_iff (c : Fin 91) (j : ℕ) (hj : j < 200) :
    keepAt (clash x0 x1 c) (above x0 c) 200 j ↔ keepAt (clashR S B c) (aboveR S c) 200 j := by
  refine keepAt_congr (N := 200) (fun i j hi hj => ?_) (fun j hj => ?_) 200 j le_rfl hj
  · unfold clash clashR Clash overlap Cert.Hand.union area inter
    simp only [boxOf_eq x0 x1 S B h0 hp h1 c _ _ hi, boxOf_eq x0 x1 S B h0 hp h1 c _ _ hj]
  · unfold above aboveR
    rw [rowS_pick x0 S h0 hp c j hj]

include h0 hp h1 in
/-- The kept scores. -/
theorem fs_eq (c : Fin 91) (j : Fin 256) : k0_pay42 (F := Ideal) (sel x0 x1).2.1 (keepOf (sel x0 x1)) (ix2 c j) = fsR S B (c, j) := by
  rw [fs_at]
  unfold fsR
  by_cases hj : j.val < 200
  · simp only [hj, true_and, keep_iff x0 x1 S B h0 hp h1 c j hj, rowS_pick x0 S h0 hp c j hj]
  · rw [if_neg (fun h => hj h.1), if_neg (fun h => hj h.1)]

/-- A kept score is greater than a cleared one. -/
theorem negFour_lt_fsR (q : Fin 91 × Fin 256) : negFour < fsR S B q := by
  refine lt_of_lt_of_le ?_ (dropped_le_fsR S B q)
  rw [negFour, dropped, lit_neg_one, lit_neg_four]; exact_mod_cast (by norm_num : (-4 : ℝ) < -1)

include h0 hp h1 in
/-- The merge loop's result. -/
theorem mrg_at : MrgInv (fsR S B) (sel x0 x1).2.2.1 (sel x0 x1).2.2.2.1 (sel x0 x1).2.2.2.2.1 (sel x0 x1).2.2.2.2.2 100 (mrg x0 x1) :=
  mrg_inv _ _ _ _ _ (fsR S B) (fs_eq x0 x1 S B h0 hp h1) (negFour_lt_fsR S B)

include h0 hp h1 in
/-- The mask of a lane: a detection above the threshold. -/
theorem mask_at (l : Fin 128) : k0_pay58 (F := Ideal) (mrg x0 x1).2.1 (ix2 0 l) = if l.val < 100 ∧ validR S B l then 1#1 else 0#1 := by
  pointwise [k0_pay58]
  rw [(mrg_at x0 x1 S B h0 hp h1).top l, ofBool_bit]
  by_cases hl : l.val < 100
  · have hV : validR S B l ↔ Ideal.ofBits .f32 0x3D4CCCCD#32 < fsR S B (best (fsR S B) l) := Iff.rfl
    simp only [hl, if_true, true_and, hV]
  · simp only [hl, if_false, false_and]
    rw [if_neg]
    rw [not_lt]
    refine le_of_lt (lt_trans ?_ lit_thresh_pos)
    rw [negNine, lit_neg_nine]; exact_mod_cast (by norm_num : (-9 : ℝ) < 0)

include h0 hp h1 in
/-- The stored scores. -/
theorem out2_at (l : Fin 128) (hl : l.val < 100) : out2 (F := Ideal) x0 x1 (ix3 0 0 l) = scoreR S B l := by
  unfold out2 scoreR
  pointwise [k0_pay60]
  rw [mask_at x0 x1 S B h0 hp h1 l, (mrg_at x0 x1 S B h0 hp h1).top l]
  simp only [hl, if_true, true_and]
  split_ifs <;> rfl

include h0 hp h1 in
/-- A picked coordinate, where the lane is a detection. -/
theorem coord_at (y : FVec Ideal S91x256 .f32) (r : Fin 4)
    (hy : ∀ (c : Fin 91) (j : Fin 256), y (ix2 c j) = if j.val < 200 then x1 (ix3 0 r (pick x0 c j)) else (0 : EReal))
    (l : Fin 128) (hl : l.val < 100) (v : EReal)
    (hv : v = if l.val < 100 then y (ix2 (best (fsR S B) l).1 (best (fsR S B) l).2) else (0 : EReal)) :
    Scalar.select (k0_pay58 (F := Ideal) (mrg x0 x1).2.1 (ix2 0 l)) v 0 = coordR S B r l := by
  unfold coordR
  rw [mask_at x0 x1 S B h0 hp h1 l, hv]
  simp only [hl, if_true, true_and]
  by_cases h : validR S B l
  · have hb := validR_lt S B h
    rw [if_pos h, if_pos h, ← boxOf_eq x0 x1 S B h0 hp h1 _ r _ hb]
    refine (hy _ _).trans ?_
    rw [if_pos]
    · rfl
    · exact hb
  · rw [if_neg h, if_neg h]; rfl

include h0 hp h1 in
/-- The stored first coordinates. -/
theorem out3_at (l : Fin 128) (hl : l.val < 100) : out3 (F := Ideal) x0 x1 (ix3 0 0 l) = coordR S B 0 l := by
  unfold out3
  pointwise [k0_pay61]
  exact coord_at x0 x1 S B h0 hp h1 _ 0 (sel_inv x0 x1).cy1 l hl _ ((mrg_at x0 x1 S B h0 hp h1).cy1 l)

include h0 hp h1 in
/-- The stored second coordinates. -/
theorem out4_at (l : Fin 128) (hl : l.val < 100) : out4 (F := Ideal) x0 x1 (ix3 0 0 l) = coordR S B 1 l := by
  unfold out4
  pointwise [k0_pay1, k0_pay62]
  exact coord_at x0 x1 S B h0 hp h1 _ 1 (sel_inv x0 x1).cx1 l hl _ ((mrg_at x0 x1 S B h0 hp h1).cx1 l)

include h0 hp h1 in
/-- The stored third coordinates. -/
theorem out5_at (l : Fin 128) (hl : l.val < 100) : out5 (F := Ideal) x0 x1 (ix3 0 0 l) = coordR S B 2 l := by
  unfold out5
  pointwise [k0_pay2]
  exact coord_at x0 x1 S B h0 hp h1 _ 2 (sel_inv x0 x1).cy2 l hl _ ((mrg_at x0 x1 S B h0 hp h1).cy2 l)

include h0 hp h1 in
/-- The stored fourth coordinates. -/
theorem out6_at (l : Fin 128) (hl : l.val < 100) : out6 (F := Ideal) x0 x1 (ix3 0 0 l) = coordR S B 3 l := by
  unfold out6
  pointwise [k0_pay3]
  exact coord_at x0 x1 S B h0 hp h1 _ 3 (sel_inv x0 x1).cx2 l hl _ ((mrg_at x0 x1 S B h0 hp h1).cx2 l)

include h0 hp h1 in
/-- The stored classes. -/
theorem out7_at (l : Fin 128) (hl : l.val < 100) : out7 (F := Ideal) x0 x1 (ix3 0 0 l) = classR S B l := by
  unfold out7 classR
  pointwise [k0_pay4]
  rw [mask_at x0 x1 S B h0 hp h1 l, (mrg_at x0 x1 S B h0 hp h1).cls l]
  simp only [hl, if_true, true_and]
  split_ifs <;> rfl

include h0 hp h1 in
/-- The stored count. -/
theorem out8_at : out8 (F := Ideal) x0 x1 (ix3 0 0 0) = countR S B := by
  unfold out8 countR
  pointwise [k0_pay59]
  simp only [mask_at x0 x1 S B h0 hp h1]
  refine (Finset.sum_eq_fold Finset.univ _).symm.trans ?_
  refine (Fin.sum_univ_add (a := 100) (b := 28) (M := BitVec 32)
    (fun l : Fin (100 + 28) => BitVec.setWidth 32 (if l.val < 100 ∧ validR S B l then 1#1 else 0#1))).trans ?_
  have e2 : ∑ i : Fin 28, BitVec.setWidth 32 (if (Fin.natAdd 100 i).val < 100 ∧ validR S B (Fin.natAdd 100 i).val then 1#1 else 0#1) = 0#32 :=
    Finset.sum_eq_zero fun i _ => by
      rw [if_neg (fun h => by have := h.1; simp only [Fin.val_natAdd] at this; omega)]; rfl
  rw [e2]
  refine (add_zero _).trans (Finset.sum_congr rfl fun l _ => ?_)
  have hl := l.isLt
  simp only [Fin.val_castAdd, hl, true_and]
  split_ifs <;> rfl

end Image

end Cert.KernelIdeal.Hand
-- ==== Proof.KernelResult.lean ====
/-
  Hand-written. What the kernel's four results hold, image by image: the detection of the image's scores and boxes.
-/
module

public import proofs.«01_k».proof.Proof.KernelOut
public import Idealize.ShloMosaic.Lib.Claim
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe
open Cert.Hand

variable (m : (ℓ : Loc nD τ sig) → Buf (Elt Ideal) ℓ)

/-- The scores of image `b`: class `k`, box `n`. -/
def scores (c : Dev nD) (b : Fin 8) (k : Fin 91) (n : Fin 20000) : EReal :=
  (m ((c : Thread nD τ).loc main_arg1) : S8x20000x91.Idx → EReal) (ix3 b n k)
/-- The boxes of image `b`: box `n`, coordinate `r`. -/
def boxes (c : Dev nD) (b : Fin 8) (n : Fin 20000) (r : Fin 4) : EReal :=
  (m ((c : Thread nD τ).loc main_arg0) : S8x20000x1x4.Idx → EReal) (ix4 b n 0 r)

/-- Point `t` of the grid works on image `t`. -/
def img (t : Fin cfg0.N) : Fin 8 := ⟨t.val, lt_of_lt_of_eq t.isLt N_0⟩

/-- The scores' block of a point is image `t`'s. -/
theorem idx0 : ∀ t : Fin cfg0.N, win0_0.index t = ![t.val, 0, 0] := (by decide +kernel : ∀ t : Fin grid0.N, _)
/-- The boxes' block of a point is image `t`'s. -/
theorem idx1 : ∀ t : Fin cfg0.N, win0_1.index t = ![t.val, 0, 0] := (by decide +kernel : ∀ t : Fin grid0.N, _)

/-- The scores' array the launch finds: transposed, and padded with -2. -/
theorem V_scores (c : Dev nD) : V m c main_call0_v4 = pad S8x91x20096 ![0, 0, 0] ![0, 0, 96] ![0, 0, 0]
    (transpose S8x91x20000 [0, 2, 1] (m ((c : Thread nD τ).loc main_arg1) : Vec Ideal S8x20000x91 .f32) transposes_S8x20000x91_S8x91x20000_0_2_1)
    (constant (F := Ideal) S_ .f32 0xC0000000#32) pads_S8x91x20000_S8x91x20096_000_000_0960 h_S_ := by
  unfold V V0
  simp only [hostOps0, List.flatten_cons, List.flatten_nil, List.append_nil, List.cons_append, List.nil_append]
  after_results
  rfl

/-- The boxes' array the launch finds: reshaped, transposed, and padded with a constant. -/
theorem V_boxes (c : Dev nD) : V m c main_call0_v2 = pad S8x4x20096 ![0, 0, 0] ![0, 0, 96] ![0, 0, 0]
    (transpose S8x4x20000 [0, 2, 1] (shapeCast S8x20000x4 (m ((c : Thread nD τ).loc main_arg0) : Vec Ideal S8x20000x1x4 .f32) shapeCasts_S8x20000x1x4_S8x20000x4) transposes_S8x20000x4_S8x4x20000_0_2_1)
    (sitofp (F := Ideal) .f32 (constantI S_ 32 0#32)) pads_S8x4x20000_S8x4x20096_000_000_0960 h_S_ := by
  unfold V V0
  simp only [hostOps0, List.flatten_cons, List.flatten_nil, List.append_nil, List.cons_append, List.nil_append]
  after_results
  rfl

/-- The second result, from the arrays at the launch's exit. -/
theorem tail1 (W : Valuation τ sig (Elt Ideal)) : StableHlo.after hostOps1 W (Proc.devRef .tc main_v0_1) =
    extractStridedSlice S8x100 ![0, 0] (shapeCast S8x128 (W (Proc.devRef .tc main_call0_v5_0) : Vec Ideal S8x1x128 .f32) shapeCasts_S8x1x128_S8x128) slices_S8x128_S8x100_0_0 := by
  after_results
  rfl

/-- The third result, from the arrays at the launch's exit. -/
theorem tail2 (W : Valuation τ sig (Elt Ideal)) : StableHlo.after hostOps1 W (Proc.devRef .tc main_v0_2) =
    extractStridedSlice S8x100 ![0, 0] (shapeCast S8x128 (W (Proc.devRef .tc main_call0_v5_5) : IVec S8x1x128 32) shapeCasts_S8x1x128_S8x128) slices_S8x128_S8x100_0_0 := by
  after_results
  rfl

/-- The fourth result, from the arrays at the launch's exit. -/
theorem tail3 (W : Valuation τ sig (Elt Ideal)) : StableHlo.after hostOps1 W (Proc.devRef .tc main_v0_3) =
    shapeCast S8 (shapeCast S8x1 (W (Proc.devRef .tc main_call0_v5_6) : IVec S8x1x1 32) shapeCasts_S8x1x1_S8x1) shapeCasts_S8x1_S8 := by
  after_results
  rfl

/-- One coordinate's array, cut to the first hundred and given a last axis. -/
def coordCol (x : Vec Ideal S8x1x128 .f32) : Vec Ideal S8x100x1 .f32 :=
  broadcastInDim S8x100x1 ![0, 1] bcast_S8x100_S8x100x1_0_1
    (extractStridedSlice S8x100 ![0, 0] (shapeCast S8x128 x shapeCasts_S8x1x128_S8x128) slices_S8x128_S8x100_0_0)

/-- The first result, from the arrays at the launch's exit. -/
theorem tail0 (W : Valuation τ sig (Elt Ideal)) : StableHlo.after hostOps1 W (Proc.devRef .tc main_v0_0) =
    concatenate S8x100x4 2 [⟨S8x100x1, coordCol (W (Proc.devRef .tc main_call0_v5_1))⟩, ⟨S8x100x1, coordCol (W (Proc.devRef .tc main_call0_v5_2))⟩,
      ⟨S8x100x1, coordCol (W (Proc.devRef .tc main_call0_v5_3))⟩, ⟨S8x100x1, coordCol (W (Proc.devRef .tc main_call0_v5_4))⟩]
      concatenates_S8x100x1_S8x100x1_S8x100x1_S8x100x1_S8x100x4_d2 := by
  after_results
  after_results_loop
  rfl

/-- The score block, image column by image column. -/
theorem blk0_at (c : Dev nD) (t : Fin cfg0.N) (k : Fin 91) (n : Fin 20000) :
    (iblk m c 0 t : S1x91x20096.Idx → EReal) (ix3 0 k (n.castLE cols)) = scores m c (img t) k n := by
  have e : (iblk m c 0 t : S1x91x20096.Idx → EReal) (ix3 0 k (n.castLE cols)) = (V m c main_call0_v4 : S8x91x20096.Idx → EReal) (ix3 (img t) k (n.castLE cols)) := by
    blk_simp [iblk]
    blk_ext [idx0 t, img]
  rw [e, V_scores]
  pointwise [scores]
  rw [dif_pos (show (n.castLE cols).val < 20000 from n.isLt)]
  rfl

/-- The score block's extra columns. -/
theorem blk0_pad (c : Dev nD) (t : Fin cfg0.N) (k : Fin 91) (n : Fin 20096) (hn : 20000 ≤ n.val) :
    (iblk m c 0 t : S1x91x20096.Idx → EReal) (ix3 0 k n) = negTwo := by
  have e : (iblk m c 0 t : S1x91x20096.Idx → EReal) (ix3 0 k n) = (V m c main_call0_v4 : S8x91x20096.Idx → EReal) (ix3 (img t) k n) := by
    blk_simp [iblk]
    blk_ext [idx0 t, img]
  rw [e, V_scores]
  pointwise []
  rw [dif_neg (by omega)]

/-- The box block, image column by image column. -/
theorem blk1_at (c : Dev nD) (t : Fin cfg0.N) (r : Fin 4) (n : Fin 20000) :
    (iblk m c 1 t : S1x4x20096.Idx → EReal) (ix3 0 r (n.castLE cols)) = boxes m c (img t) n r := by
  have e : (iblk m c 1 t : S1x4x20096.Idx → EReal) (ix3 0 r (n.castLE cols)) = (V m c main_call0_v2 : S8x4x20096.Idx → EReal) (ix3 (img t) r (n.castLE cols)) := by
    blk_simp [iblk]
    blk_ext [idx1 t, img]
  rw [e, V_boxes]
  pointwise [boxes]
  rw [dif_pos (show (n.castLE cols).val < 20000 from n.isLt)]
  rfl

/-- An index of a 1x1x128 block is its last coordinate. -/
theorem row_idx (y : S1x1x128.Idx) : y = ix3 0 0 (y 2) :=
  (eq_ix3 y).trans (congrArg₂ (fun (a b : Fin 1) => ix3 a b (y 2 : Fin 128)) (Subsingleton.elim (α := Fin 1) _ _) (Subsingleton.elim (α := Fin 1) _ _))

/-- A 1x1x1 block has one index. -/
theorem one_idx (y : S1x1x1.Idx) : y = ix3 0 0 0 :=
  (eq_ix3 y).trans ((congrArg₂ (fun (a b : Fin 1) => ix3 a b (y 2 : Fin 1)) (Subsingleton.elim (α := Fin 1) _ _) (Subsingleton.elim (α := Fin 1) _ _)).trans
    (congrArg (fun a : Fin 1 => ix3 (0 : Fin 1) (0 : Fin 1) a) (Subsingleton.elim (α := Fin 1) _ _)))

/-- The point that works on image `b`. -/
def pt (b : Fin 8) : Fin cfg0.N := ⟨b.val, lt_of_lt_of_eq b.isLt N_0.symm⟩

/-- The block of output window 2 of a point is image `t`'s. -/
theorem idx2 : ∀ t : Fin cfg0.N, win0_2.index t = ![t.val, 0, 0] := (by decide +kernel : ∀ t : Fin grid0.N, _)
/-- The block of output window 3 of a point is image `t`'s. -/
theorem idx3 : ∀ t : Fin cfg0.N, win0_3.index t = ![t.val, 0, 0] := (by decide +kernel : ∀ t : Fin grid0.N, _)
/-- The block of output window 4 of a point is image `t`'s. -/
theorem idx4 : ∀ t : Fin cfg0.N, win0_4.index t = ![t.val, 0, 0] := (by decide +kernel : ∀ t : Fin grid0.N, _)
/-- The block of output window 5 of a point is image `t`'s. -/
theorem idx5 : ∀ t : Fin cfg0.N, win0_5.index t = ![t.val, 0, 0] := (by decide +kernel : ∀ t : Fin grid0.N, _)
/-- The block of output window 6 of a point is image `t`'s. -/
theorem idx6 : ∀ t : Fin cfg0.N, win0_6.index t = ![t.val, 0, 0] := (by decide +kernel : ∀ t : Fin grid0.N, _)
/-- The block of output window 7 of a point is image `t`'s. -/
theorem idx7 : ∀ t : Fin cfg0.N, win0_7.index t = ![t.val, 0, 0] := (by decide +kernel : ∀ t : Fin grid0.N, _)
/-- The block of output window 8 of a point is image `t`'s. -/
theorem idx8 : ∀ t : Fin cfg0.N, win0_8.index t = ![t.val, 0, 0] := (by decide +kernel : ∀ t : Fin grid0.N, _)

/-- Output array 2 after the launch, image by image. -/
def G2 (c : Dev nD) : Vec Ideal S8x1x128 .f32 := fun i => (out2 (iblk m c 0 (pt (i 0))) (iblk m c 1 (pt (i 0)))) (ix3 0 0 (i 2))
/-- Output array 2 holds it. -/
theorem arr2 (c : Dev nD) : (dats m 0 c).arrAt 2 cfg0.N = G2 m c := by
  refine (dats m 0 c).arrAt_eq_of_covers 2 _ (by decide +kernel) fun t _ y => ?_
  blk_simp
  rw [after0_2]
  change S1x1x128.Idx at y
  have e : ((win0_2.blk t).view.emb y : S8x1x128.Idx) = ix3 (img t) 0 (y 2) := by blk_ext [idx2 t, img]
  rw [e]
  have hy : y = ix3 0 0 (y 2) := row_idx y
  exact congrArg (out2 (iblk m c 0 t) (iblk m c 1 t)) hy

/-- Output array 3 after the launch, image by image. -/
def G3 (c : Dev nD) : Vec Ideal S8x1x128 .f32 := fun i => (out3 (iblk m c 0 (pt (i 0))) (iblk m c 1 (pt (i 0)))) (ix3 0 0 (i 2))
/-- Output array 3 holds it. -/
theorem arr3 (c : Dev nD) : (dats m 0 c).arrAt 3 cfg0.N = G3 m c := by
  refine (dats m 0 c).arrAt_eq_of_covers 3 _ (by decide +kernel) fun t _ y => ?_
  blk_simp
  rw [after0_3]
  change S1x1x128.Idx at y
  have e : ((win0_3.blk t).view.emb y : S8x1x128.Idx) = ix3 (img t) 0 (y 2) := by blk_ext [idx3 t, img]
  rw [e]
  have hy : y = ix3 0 0 (y 2) := row_idx y
  exact congrArg (out3 (iblk m c 0 t) (iblk m c 1 t)) hy

/-- Output array 4 after the launch, image by image. -/
def G4 (c : Dev nD) : Vec Ideal S8x1x128 .f32 := fun i => (out4 (iblk m c 0 (pt (i 0))) (iblk m c 1 (pt (i 0)))) (ix3 0 0 (i 2))
/-- Output array 4 holds it. -/
theorem arr4 (c : Dev nD) : (dats m 0 c).arrAt 4 cfg0.N = G4 m c := by
  refine (dats m 0 c).arrAt_eq_of_covers 4 _ (by decide +kernel) fun t _ y => ?_
  blk_simp
  rw [after0_4]
  change S1x1x128.Idx at y
  have e : ((win0_4.blk t).view.emb y : S8x1x128.Idx) = ix3 (img t) 0 (y 2) := by blk_ext [idx4 t, img]
  rw [e]
  have hy : y = ix3 0 0 (y 2) := row_idx y
  exact congrArg (out4 (iblk m c 0 t) (iblk m c 1 t)) hy

/-- Output array 5 after the launch, image by image. -/
def G5 (c : Dev nD) : Vec Ideal S8x1x128 .f32 := fun i => (out5 (iblk m c 0 (pt (i 0))) (iblk m c 1 (pt (i 0)))) (ix3 0 0 (i 2))
/-- Output array 5 holds it. -/
theorem arr5 (c : Dev nD) : (dats m 0 c).arrAt 5 cfg0.N = G5 m c := by
  refine (dats m 0 c).arrAt_eq_of_covers 5 _ (by decide +kernel) fun t _ y => ?_
  blk_simp
  rw [after0_5]
  change S1x1x128.Idx at y
  have e : ((win0_5.blk t).view.emb y : S8x1x128.Idx) = ix3 (img t) 0 (y 2) := by blk_ext [idx5 t, img]
  rw [e]
  have hy : y = ix3 0 0 (y 2) := row_idx y
  exact congrArg (out5 (iblk m c 0 t) (iblk m c 1 t)) hy

/-- Output array 6 after the launch, image by image. -/
def G6 (c : Dev nD) : Vec Ideal S8x1x128 .f32 := fun i => (out6 (iblk m c 0 (pt (i 0))) (iblk m c 1 (pt (i 0)))) (ix3 0 0 (i 2))
/-- Output array 6 holds it. -/
theorem arr6 (c : Dev nD) : (dats m 0 c).arrAt 6 cfg0.N = G6 m c := by
  refine (dats m 0 c).arrAt_eq_of_covers 6 _ (by decide +kernel) fun t _ y => ?_
  blk_simp
  rw [after0_6]
  change S1x1x128.Idx at y
  have e : ((win0_6.blk t).view.emb y : S8x1x128.Idx) = ix3 (img t) 0 (y 2) := by blk_ext [idx6 t, img]
  rw [e]
  have hy : y = ix3 0 0 (y 2) := row_idx y
  exact congrArg (out6 (iblk m c 0 t) (iblk m c 1 t)) hy

/-- Output array 7 after the launch, image by image. -/
def G7 (c : Dev nD) : IVec S8x1x128 32 := fun i => (out7 (iblk m c 0 (pt (i 0))) (iblk m c 1 (pt (i 0)))) (ix3 0 0 (i 2))
/-- Output array 7 holds it. -/
theorem arr7 (c : Dev nD) : (dats m 0 c).arrAt 7 cfg0.N = G7 m c := by
  refine (dats m 0 c).arrAt_eq_of_covers 7 _ (by decide +kernel) fun t _ y => ?_
  blk_simp
  rw [after0_7]
  change S1x1x128.Idx at y
  have e : ((win0_7.blk t).view.emb y : S8x1x128.Idx) = ix3 (img t) 0 (y 2) := by blk_ext [idx7 t, img]
  rw [e]
  have hy : y = ix3 0 0 (y 2) := row_idx y
  exact congrArg (out7 (iblk m c 0 t) (iblk m c 1 t)) hy

/-- Output array 8 after the launch, image by image. -/
def G8 (c : Dev nD) : IVec S8x1x1 32 := fun i => (out8 (iblk m c 0 (pt (i 0))) (iblk m c 1 (pt (i 0)))) (ix3 0 0 0)
/-- Output array 8 holds it. -/
theorem arr8 (c : Dev nD) : (dats m 0 c).arrAt 8 cfg0.N = G8 m c := by
  refine (dats m 0 c).arrAt_eq_of_covers 8 _ (by decide +kernel) fun t _ y => ?_
  blk_simp
  rw [after0_8]
  change S1x1x1.Idx at y
  have e : ((win0_8.blk t).view.emb y : S8x1x1.Idx) = ix3 (img t) 0 0 := by blk_ext [idx8 t, img]
  rw [e]
  have hy : y = ix3 0 0 0 := one_idx y
  exact congrArg (out8 (iblk m c 0 t) (iblk m c 1 t)) hy

/-- The hundred results are among the array's 128 entries. -/
theorem wide : 100 ≤ 128 := by omega

/-- The value kept as the first result: the boxes. -/
def res0 (c : Dev nD) : Vec Ideal S8x100x4 .f32 := fun i => coordR (scores m c (i 0)) (boxes m c (i 0)) (i 2) (i 1).val
/-- The value kept as the second result: the scores. -/
def res1 (c : Dev nD) : Vec Ideal S8x100 .f32 := fun i => scoreR (scores m c (i 0)) (boxes m c (i 0)) (i 1).val
/-- The value kept as the third result: the classes. -/
def res2 (c : Dev nD) : IVec S8x100 32 := fun i => classR (scores m c (i 0)) (boxes m c (i 0)) (i 1).val
/-- The value kept as the fourth result: the number of detections. -/
def res3 (c : Dev nD) : IVec S8 32 := fun i => countR (scores m c (i 0)) (boxes m c (i 0))

section Read
variable (c : Dev nD) (b : Fin 8) (l : Fin 100)

/-- Output array 2, image by image. -/
theorem G2_at : G2 m c (ix3 b 0 (l.castLE wide)) = scoreR (scores m c b) (boxes m c b) l.val :=
  out2_at _ _ _ _ (fun k n => blk0_at m c (pt b) k n) (fun k n hn => blk0_pad m c (pt b) k n hn) (fun r n => blk1_at m c (pt b) r n) (l.castLE wide) l.isLt
/-- Output array 3, image by image. -/
theorem G3_at : G3 m c (ix3 b 0 (l.castLE wide)) = coordR (scores m c b) (boxes m c b) 0 l.val :=
  out3_at _ _ _ _ (fun k n => blk0_at m c (pt b) k n) (fun k n hn => blk0_pad m c (pt b) k n hn) (fun r n => blk1_at m c (pt b) r n) (l.castLE wide) l.isLt
/-- Output array 4, image by image. -/
theorem G4_at : G4 m c (ix3 b 0 (l.castLE wide)) = coordR (scores m c b) (boxes m c b) 1 l.val :=
  out4_at _ _ _ _ (fun k n => blk0_at m c (pt b) k n) (fun k n hn => blk0_pad m c (pt b) k n hn) (fun r n => blk1_at m c (pt b) r n) (l.castLE wide) l.isLt
/-- Output array 5, image by image. -/
theorem G5_at : G5 m c (ix3 b 0 (l.castLE wide)) = coordR (scores m c b) (boxes m c b) 2 l.val :=
  out5_at _ _ _ _ (fun k n => blk0_at m c (pt b) k n) (fun k n hn => blk0_pad m c (pt b) k n hn) (fun r n => blk1_at m c (pt b) r n) (l.castLE wide) l.isLt
/-- Output array 6, image by image. -/
theorem G6_at : G6 m c (ix3 b 0 (l.castLE wide)) = coordR (scores m c b) (boxes m c b) 3 l.val :=
  out6_at _ _ _ _ (fun k n => blk0_at m c (pt b) k n) (fun k n hn => blk0_pad m c (pt b) k n hn) (fun r n => blk1_at m c (pt b) r n) (l.castLE wide) l.isLt
/-- Output array 7, image by image. -/
theorem G7_at : G7 m c (ix3 b 0 (l.castLE wide)) = classR (scores m c b) (boxes m c b) l.val :=
  out7_at _ _ _ _ (fun k n => blk0_at m c (pt b) k n) (fun k n hn => blk0_pad m c (pt b) k n hn) (fun r n => blk1_at m c (pt b) r n) (l.castLE wide) l.isLt
/-- Output array 8, image by image. -/
theorem G8_at : G8 m c (ix3 b 0 0) = countR (scores m c b) (boxes m c b) :=
  out8_at _ _ _ _ (fun k n => blk0_at m c (pt b) k n) (fun k n hn => blk0_pad m c (pt b) k n hn) (fun r n => blk1_at m c (pt b) r n)

/-- One coordinate's column of the first result. -/
theorem coordCol_at (x : Vec Ideal S8x1x128 .f32) : coordCol x (ix3 b l 0) = x (ix3 b 0 (l.castLE wide)) := by
  unfold coordCol
  pointwise []
  rfl

end Read

/-- The arrays at the launch's exit. -/
abbrev exit (c : Dev nD) : Valuation τ sig (Elt Ideal) :=
  Pipeline.withArrays (cfgs 0).spec c (V0 m c) fun w => (dats m 0 c).arrAt w (cfgs 0).N

/-- An output array at the launch's exit is what the proof data say. -/
theorem exit_arr (c : Dev nD) (w : Fin cfg0.W) : exit m c (Proc.devRef .tc (Pipeline.arrRef spec0 w)) = (dats m 0 c).arrAt w cfg0.N :=
  Pipeline.withArrays_arr spec0 (by decide) c (V0 m c) _ w

/-- The second result. -/
theorem read1 (c : Dev nD) : Pipeline.afterTail₀ cfgs (dats m) 0 (V0 m) [hostOps1] c main_v0_1 = res1 m c := by
  refine (tail1 (exit m c)).trans ?_
  rw [show (exit m c) (Proc.devRef .tc main_call0_v5_0) = G2 m c from (exit_arr m c 2).trans (arr2 m c)]
  funext i
  idx_vars i
  pointwise [res1]
  exact G2_at m c i0 i1

/-- The third result. -/
theorem read2 (c : Dev nD) : Pipeline.afterTail₀ cfgs (dats m) 0 (V0 m) [hostOps1] c main_v0_2 = res2 m c := by
  refine (tail2 (exit m c)).trans ?_
  rw [show (exit m c) (Proc.devRef .tc main_call0_v5_5) = G7 m c from (exit_arr m c 7).trans (arr7 m c)]
  funext i
  idx_vars i
  pointwise [res2]
  exact G7_at m c i0 i1

/-- The fourth result. -/
theorem read3 (c : Dev nD) : Pipeline.afterTail₀ cfgs (dats m) 0 (V0 m) [hostOps1] c main_v0_3 = res3 m c := by
  refine (tail3 (exit m c)).trans ?_
  rw [show (exit m c) (Proc.devRef .tc main_call0_v5_6) = G8 m c from (exit_arr m c 8).trans (arr8 m c)]
  funext i
  idx_vars i
  pointwise [res3]
  exact G8_at m c i0

/-- The first result. -/
theorem read0 (c : Dev nD) : Pipeline.afterTail₀ cfgs (dats m) 0 (V0 m) [hostOps1] c main_v0_0 = res0 m c := by
  refine (tail0 (exit m c)).trans ?_
  rw [show (exit m c) (Proc.devRef .tc main_call0_v5_1) = G3 m c from (exit_arr m c 3).trans (arr3 m c),
    show (exit m c) (Proc.devRef .tc main_call0_v5_2) = G4 m c from (exit_arr m c 4).trans (arr4 m c),
    show (exit m c) (Proc.devRef .tc main_call0_v5_3) = G5 m c from (exit_arr m c 5).trans (arr5 m c),
    show (exit m c) (Proc.devRef .tc main_call0_v5_4) = G6 m c from (exit_arr m c 6).trans (arr6 m c)]
  funext i
  idx_vars i
  pointwise [res0]
  have hz : ∀ (a : ℕ) (h : a < 1), (⟨a, h⟩ : Fin 1) = 0 := fun a h => Fin.ext (by omega)
  simp only [hz, coordCol_at, G3_at, G4_at, G5_at, G6_at]
  fin_cases i2 <;> simp

/-- Every run ends with the four results at the images' detections, and the arguments as launched. -/
theorem run (ρ : Dev nD → PrngReg) : θ_run defs (onTc (τ := τ) (main (F := Ideal))) ⟨m, fun _ => 0, ρ⟩ (fun r => ∀ c : Dev nD,
    r.2.mem ((c.tc : Thread nD τ).loc main_v0_0) = res0 m c
    ∧ r.2.mem ((c.tc : Thread nD τ).loc main_v0_1) = res1 m c
    ∧ r.2.mem ((c.tc : Thread nD τ).loc main_v0_2) = res2 m c
    ∧ r.2.mem ((c.tc : Thread nD τ).loc main_v0_3) = res3 m c
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c =>
    ⟨((h.1 c).2 main_v0_0 (Pipeline.mem_restRefs_of main_v0_0 (by decide) (by decide))).trans (read0 m c),
     ((h.1 c).2 main_v0_1 (Pipeline.mem_restRefs_of main_v0_1 (by decide) (by decide))).trans (read1 m c),
     ((h.1 c).2 main_v0_2 (Pipeline.mem_restRefs_of main_v0_2 (by decide) (by decide))).trans (read2 m c),
     ((h.1 c).2 main_v0_3 (Pipeline.mem_restRefs_of main_v0_3 (by decide) (by decide))).trans (read3 m c),
     ((h.1 c).2 main_arg0 (Pipeline.mem_restRefs_of main_arg0 (by decide) (by decide))).trans (W_main_arg0 m (dats m) c),
     ((h.1 c).2 main_arg1 (Pipeline.mem_restRefs_of main_arg1 (by decide) (by decide))).trans (W_main_arg1 m (dats m) c)⟩) (run_main m ρ)

end Cert.KernelIdeal.Hand
-- ==== Proof.RefTerms.lean ====
/-
  Hand-written. The reference's lines around its loop, as terms of their operands.
-/
module

public import proofs.«01_k».proof.Proof.ReferenceRun
public import Idealize.ShloMosaic.Lib.Pointwise

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe
open Idealize.ShloMosaic.StableHlo

/-! ## Before the loop -/

/-- The scores by class, those at or below the cut dropped. -/
def maskedT (a : FVec Ideal S8x20000x91 .f32) : FVec Ideal S8x91x20000 .f32 :=
  select (cmpf .ogt (transpose S8x91x20000 [0, 2, 1] a transposes_S8x20000x91_S8x91x20000_0_2_1) (broadcastInDim S8x91x20000 ![] bcast_S_S8x91x20000 (constant S_ .f32 0x3D4CCCCD#32)))
    (transpose S8x91x20000 [0, 2, 1] a transposes_S8x20000x91_S8x91x20000_0_2_1) (broadcastInDim S8x91x20000 ![] bcast_S_S8x91x20000 (constant S_ .f32 0xBF800000#32))

/-- The two hundred best scores of each class. -/
def valT (x : FVec Ideal S8x91x20000 .f32) : FVec Ideal S8x91x200 .f32 := (Host.topK S8x91x200 2 (FloatOps.cmpfTotal .gt) x sliceFits_S8x91x20000_S8x91x200).1
/-- Their anchors. -/
def idxT (x : FVec Ideal S8x91x20000 .f32) : IVec S8x91x200 32 := (Host.topK S8x91x200 2 (FloatOps.cmpfTotal .gt) x sliceFits_S8x91x20000_S8x91x200).2
/-- Anchors counted from the end where they are below zero. -/
def wrap1 (i : IVec S8x91x200 32) : IVec S8x91x200 32 :=
  select (cmpi .slt i (broadcastInDim S8x91x200 ![] bcast_S_S8x91x200 (constantI S_ 32 0#32))) (addi i (broadcastInDim S8x91x200 ![] bcast_S_S8x91x200 (constantI S_ 32 20000#32))) i
/-- The boxes of the anchors. -/
def boxT (a : FVec Ideal S8x20000x4 .f32) (i : IVec S8x91x200 32) : FVec Ideal S8x91x200x4 .f32 :=
  Host.gather gather_S8x20000x4_S8x91x200x1_S8x91x200x4_3_1_0_0_1_3_114 a (broadcastInDim S8x91x200x1 ![0, 1, 2] bcast_S8x91x200_S8x91x200x1_0_1_2 (wrap1 i))
/-- The boxes' first coordinates. -/
def y1T (x : FVec Ideal S8x91x200x4 .f32) : FVec Ideal S8x91x200 .f32 :=
  shapeCast S8x91x200 (extractStridedSlice S8x91x200x1 ![0, 0, 0, 0] x slices_S8x91x200x4_S8x91x200x1_0_0_0_0) shapeCasts_S8x91x200x1_S8x91x200
/-- The boxes' second coordinates. -/
def x1T (x : FVec Ideal S8x91x200x4 .f32) : FVec Ideal S8x91x200 .f32 :=
  shapeCast S8x91x200 (extractStridedSlice S8x91x200x1 ![0, 0, 0, 1] x slices_S8x91x200x4_S8x91x200x1_0_0_0_1) shapeCasts_S8x91x200x1_S8x91x200
/-- The boxes' third coordinates. -/
def y2T (x : FVec Ideal S8x91x200x4 .f32) : FVec Ideal S8x91x200 .f32 :=
  shapeCast S8x91x200 (extractStridedSlice S8x91x200x1 ![0, 0, 0, 2] x slices_S8x91x200x4_S8x91x200x1_0_0_0_2) shapeCasts_S8x91x200x1_S8x91x200
/-- The boxes' fourth coordinates. -/
def x2T (x : FVec Ideal S8x91x200x4 .f32) : FVec Ideal S8x91x200 .f32 :=
  shapeCast S8x91x200 (extractStridedSlice S8x91x200x1 ![0, 0, 0, 3] x slices_S8x91x200x4_S8x91x200x1_0_0_0_3) shapeCasts_S8x91x200x1_S8x91x200
/-- The boxes' areas. -/
def areaT (x : FVec Ideal S8x91x200x4 .f32) : FVec Ideal S8x91x200 .f32 := mulf (subf (y2T x) (y1T x)) (subf (x2T x) (x1T x))
/-- A value of the first slot of each pair. -/
def fstT (v : FVec Ideal S8x91x200 .f32) : FVec Ideal S8x91x200x200 .f32 :=
  broadcastInDim S8x91x200x200 ![0, 1, 2, 3] bcast_S8x91x200x1_S8x91x200x200_0_1_2_3 (broadcastInDim S8x91x200x1 ![0, 1, 2] bcast_S8x91x200_S8x91x200x1_0_1_2 v)
/-- A value of the second slot of each pair. -/
def sndT (v : FVec Ideal S8x91x200 .f32) : FVec Ideal S8x91x200x200 .f32 :=
  broadcastInDim S8x91x200x200 ![0, 1, 2, 3] bcast_S8x91x1x200_S8x91x200x200_0_1_2_3 (broadcastInDim S8x91x1x200 ![0, 1, 3] bcast_S8x91x200_S8x91x1x200_0_1_3 v)
/-- A number, for every pair. -/
def numT (w : BitVec 32) : FVec Ideal S8x91x200x200 .f32 := broadcastInDim S8x91x200x200 ![] bcast_S_S8x91x200x200 (constant S_ .f32 w)
/-- The area two boxes share. -/
def interT (x : FVec Ideal S8x91x200x4 .f32) : FVec Ideal S8x91x200x200 .f32 :=
  mulf (maximumf (subf (minimumf (fstT (y2T x)) (sndT (y2T x))) (maximumf (fstT (y1T x)) (sndT (y1T x)))) (numT 0x00000000#32))
    (maximumf (subf (minimumf (fstT (x2T x)) (sndT (x2T x))) (maximumf (fstT (x1T x)) (sndT (x1T x)))) (numT 0x00000000#32))
/-- The overlap of two boxes. -/
def iouT (x : FVec Ideal S8x91x200x4 .f32) : FVec Ideal S8x91x200x200 .f32 :=
  Host.divf (interT x) (maximumf (subf (addf (fstT (areaT x)) (sndT (areaT x))) (interT x)) (numT 0x322BCC77#32))
/-- Which of the scores are above the cut. -/
def aboveT (v : FVec Ideal S8x91x200 .f32) : IVec S8x91x200 1 := cmpf .ogt v (broadcastInDim S8x91x200 ![] bcast_S_S8x91x200 (constant S_ .f32 0x3D4CCCCD#32))

/-! ## After the loop -/

/-- The scores, the suppressed ones dropped. -/
def keptT (k : IVec S8x91x200 1) (v : FVec Ideal S8x91x200 .f32) : FVec Ideal S8x91x200 .f32 :=
  select k v (broadcastInDim S8x91x200 ![] bcast_S_S8x91x200 (constant S_ .f32 0xBF800000#32))
/-- The hundred best of each class. -/
def val2T (x : FVec Ideal S8x91x200 .f32) : FVec Ideal S8x91x100 .f32 := (Host.topK S8x91x100 2 (FloatOps.cmpfTotal .gt) x sliceFits_S8x91x200_S8x91x100).1
/-- Their slots. -/
def idx2T (x : FVec Ideal S8x91x200 .f32) : IVec S8x91x100 32 := (Host.topK S8x91x100 2 (FloatOps.cmpfTotal .gt) x sliceFits_S8x91x200_S8x91x100).2
/-- Slots counted from the end where they are below zero. -/
def wrap2 (i : IVec S8x91x100 32) : IVec S8x91x100 32 :=
  select (cmpi .slt i (broadcastInDim S8x91x100 ![] bcast_S_S8x91x100 (constantI S_ 32 0#32))) (addi i (broadcastInDim S8x91x100 ![] bcast_S_S8x91x100 (constantI S_ 32 200#32))) i
/-- Their boxes. -/
def box2T (x : FVec Ideal S8x91x200x4 .f32) (i : IVec S8x91x100 32) : FVec Ideal S8x91x100x4 .f32 :=
  Host.gather gather_S8x91x200x4_S8x91x100x1_S8x91x100x4_3_2_01_01_2_3_1114 x (broadcastInDim S8x91x100x1 ![0, 1, 2] bcast_S8x91x100_S8x91x100x1_0_1_2 (wrap2 i))
/-- Scores in one row per image. -/
def flatT (x : FVec Ideal S8x91x100 .f32) : FVec Ideal S8x9100 .f32 := shapeCast S8x9100 x shapeCasts_S8x91x100_S8x9100
/-- Boxes in one row per image. -/
def flatB (x : FVec Ideal S8x91x100x4 .f32) : FVec Ideal S8x9100x4 .f32 := shapeCast S8x9100x4 x shapeCasts_S8x91x100x4_S8x9100x4
/-- The class of each place of that row. -/
def flatC : IVec S9100 32 :=
  shapeCast S9100 (broadcastInDim S91x100 ![0, 1] bcast_S91x1_S91x100_0_1 (broadcastInDim S91x1 ![0] bcast_S91_S91x1_0 (iotaInDim S91 32 0))) shapeCasts_S91x100_S9100
/-- The hundred best of the row. -/
def val3T (x : FVec Ideal S8x9100 .f32) : FVec Ideal S8x100 .f32 := (Host.topK S8x100 1 (FloatOps.cmpfTotal .gt) x sliceFits_S8x9100_S8x100).1
/-- Their places. -/
def idx3T (x : FVec Ideal S8x9100 .f32) : IVec S8x100 32 := (Host.topK S8x100 1 (FloatOps.cmpfTotal .gt) x sliceFits_S8x9100_S8x100).2
/-- Places counted from the end where they are below zero. -/
def wrap3 (i : IVec S8x100 32) : IVec S8x100 32 :=
  select (cmpi .slt i (broadcastInDim S8x100 ![] bcast_S_S8x100 (constantI S_ 32 0#32))) (addi i (broadcastInDim S8x100 ![] bcast_S_S8x100 (constantI S_ 32 9100#32))) i
/-- The places as a column. -/
def colT (i : IVec S8x100 32) : IVec S8x100x1 32 := broadcastInDim S8x100x1 ![0, 1] bcast_S8x100_S8x100x1_0_1 (wrap3 i)
/-- Which of the best are above the cut. -/
def validT (v : FVec Ideal S8x100 .f32) : IVec S8x100 1 := cmpf .ogt v (broadcastInDim S8x100 ![] bcast_S_S8x100 (constant S_ .f32 0x3D4CCCCD#32))
/-- The scores detected. -/
def outScore (v : FVec Ideal S8x100 .f32) : FVec Ideal S8x100 .f32 :=
  select (validT v) v (broadcastInDim S8x100 ![] bcast_S_S8x100 (constant S_ .f32 0x00000000#32))
/-- The boxes detected. -/
def outBox (v : FVec Ideal S8x100 .f32) (i : IVec S8x100 32) (x : FVec Ideal S8x9100x4 .f32) : FVec Ideal S8x100x4 .f32 :=
  select (broadcastInDim S8x100x4 ![0, 1, 2] bcast_S8x100x1_S8x100x4_0_1_2 (broadcastInDim S8x100x1 ![0, 1] bcast_S8x100_S8x100x1_0_1 (validT v)))
    (Host.gather gather_S8x9100x4_S8x100x1_S8x100x4_2_1_0_0_1_2_114 x (colT i)) (broadcastInDim S8x100x4 ![] bcast_S_S8x100x4 (constant S_ .f32 0x00000000#32))
/-- The classes detected. -/
def outClass (v : FVec Ideal S8x100 .f32) (i : IVec S8x100 32) : IVec S8x100 32 :=
  select (validT v) (Host.gather gather_S9100_S8x100x1_S8x100_n_0_n_n_0_2_1 flatC (colT i)) (broadcastInDim S8x100 ![] bcast_S_S8x100 (constantI S_ 32 0#32))
/-- The number of detections. -/
def outCount (v : FVec Ideal S8x100 .f32) : IVec S8 32 :=
  Host.reduce IntOp.addi (extui 32 (validT v) natLt_1_32) (constantI S_ 32 0#32) reducesTo_S8x100_S8_d1 h_S_

/-! ## The printed lines are these terms -/

variable (W : Valuation τ sig (Elt Ideal))

/-- The boxes before the selection. -/
theorem at_v0 : after hostOps0 W (Proc.devRef .tc main_v0) = shapeCast S8x20000x4 (W (Proc.devRef .tc main_arg0) : FVec Ideal S8x20000x1x4 .f32) shapeCasts_S8x20000x1x4_S8x20000x4 := by
  after_results; rfl

/-- The masked scores. -/
theorem at_v4 : after hostOps0_1 (after hostOps0 W) (Proc.devRef .tc main_v4) = maskedT (W (Proc.devRef .tc main_arg1)) := by
  after_results; rfl

/-- The best scores by class. -/
theorem at_values : after hostOps0_2 W (Proc.devRef .tc main_values) = valT (W (Proc.devRef .tc main_v4)) := by
  after_results; rfl

/-- The boxes of the best. -/
theorem at_v11 : after hostOps0_2 W (Proc.devRef .tc main_v11) = boxT (W (Proc.devRef .tc main_v0)) (idxT (W (Proc.devRef .tc main_v4))) := by
  after_results; rfl

/-- The overlaps the loop starts from. -/
theorem at_v62_0 : after hostOps0_2 W (Proc.devRef .tc main_v62_0) = iouT (boxT (W (Proc.devRef .tc main_v0)) (idxT (W (Proc.devRef .tc main_v4)))) := by
  after_results; rfl

/-- The slots' positions. -/
theorem at_v62_1 : after hostOps0_2 W (Proc.devRef .tc main_v62_1) = (iotaInDim S200 32 0 : IVec S200 32) := by
  after_results; rfl

/-- The counter the loop starts from. -/
theorem at_v62_3 : after hostOps0_2 W (Proc.devRef .tc main_v62_3) = (constantI S_ 32 0#32 : IVec S_ 32) := by
  after_results; rfl

/-- The mask the loop starts from. -/
theorem at_v62_4 : after hostOps0_2 W (Proc.devRef .tc main_v62_4) = aboveT (valT (W (Proc.devRef .tc main_v4))) := by
  after_results; rfl

/-- The kept scores. -/
theorem at_v63 : after hostOps0_4 (after hostOps0_3 W) (Proc.devRef .tc main_v63) = keptT (W (Proc.devRef .tc main_v62_4)) (W (Proc.devRef .tc main_values)) := by
  after_results; rfl

/-- The best of the row. -/
theorem at_values_13 : after hostOps0_5 W (Proc.devRef .tc main_values_13) = val3T (flatT (val2T (W (Proc.devRef .tc main_v63)))) := by
  after_results; rfl

/-- Which of the best are detections. -/
theorem at_v92 : after hostOps0_5 W (Proc.devRef .tc main_v92) = validT (val3T (flatT (val2T (W (Proc.devRef .tc main_v63))))) := by
  after_results; rfl

/-- The boxes of the best. -/
theorem at_v83 : after hostOps0_5 W (Proc.devRef .tc main_v83) = (Host.gather gather_S8x9100x4_S8x100x1_S8x100x4_2_1_0_0_1_2_114
    (flatB (box2T (W (Proc.devRef .tc main_v11)) (idx2T (W (Proc.devRef .tc main_v63))))) (colT (idx3T (flatT (val2T (W (Proc.devRef .tc main_v63)))))) : FVec Ideal S8x100x4 .f32) := by
  after_results; rfl

/-- The classes of the best. -/
theorem at_v90 : after hostOps0_5 W (Proc.devRef .tc main_v90) = (Host.gather gather_S9100_S8x100x1_S8x100_n_0_n_n_0_2_1
    flatC (colT (idx3T (flatT (val2T (W (Proc.devRef .tc main_v63)))))) : IVec S8x100 32) := by
  after_results; rfl

/-- The number of detections. -/
theorem at_v94 : after hostOps0_5 W (Proc.devRef .tc main_v94) = outCount (val3T (flatT (val2T (W (Proc.devRef .tc main_v63))))) := by
  after_results; rfl

/-- The zero the scores are filled with. -/
theorem at_cst_21 : after hostOps0_5 W (Proc.devRef .tc main_cst_21) = (constant S_ .f32 0x00000000#32 : FVec Ideal S_ .f32) := by
  after_results

/-- The scores. -/
theorem at_v95 : after hostOps0_6 W (Proc.devRef .tc main_v95) = (select (W (Proc.devRef .tc main_v92) : IVec S8x100 1) (W (Proc.devRef .tc main_values_13) : FVec Ideal S8x100 .f32)
    (broadcastInDim S8x100 ![] bcast_S_S8x100 (W (Proc.devRef .tc main_cst_21) : FVec Ideal S_ .f32)) : FVec Ideal S8x100 .f32) := by
  after_results; rfl

/-- The boxes. -/
theorem at_v97 : after hostOps0_8 (after hostOps0_7 W) (Proc.devRef .tc main_v97)
    = (select (broadcastInDim S8x100x4 ![0, 1, 2] bcast_S8x100x1_S8x100x4_0_1_2 (broadcastInDim S8x100x1 ![0, 1] bcast_S8x100_S8x100x1_0_1 (W (Proc.devRef .tc main_v92) : IVec S8x100 1)))
    (W (Proc.devRef .tc main_v83) : FVec Ideal S8x100x4 .f32) (broadcastInDim S8x100x4 ![] bcast_S_S8x100x4 (constant S_ .f32 0x00000000#32)) : FVec Ideal S8x100x4 .f32) := by
  after_results; rfl

/-- The classes. -/
theorem at_v98 : after hostOps0_10 (after hostOps0_9 W) (Proc.devRef .tc main_v98)
    = (select (W (Proc.devRef .tc main_v92) : IVec S8x100 1) (W (Proc.devRef .tc main_v90) : IVec S8x100 32) (broadcastInDim S8x100 ![] bcast_S_S8x100 (constantI S_ 32 0#32)) : IVec S8x100 32) := by
  after_results; rfl

end Cert.ReferenceIdeal.Hand
-- ==== Proof.RefLoop.lean ====
/-
  Hand-written. The reference's loop: after `k` trips the keep mask is the suppression of the first `k` pivots.
-/
module

public import proofs.«01_k».proof.Proof.ReferenceRun
public import proofs.«01_k».proof.Proof.KeepValue
public import proofs.«01_k».proof.Proof.Spec

@[expose] public section

set_option maxRecDepth 16384

noncomputable section

namespace Cert.ReferenceIdeal.Hand

open Cert.ReferenceIdeal Cert.ReferenceIdeal.Value
open Idealize.ShloMosaic Idealize.ShloMosaic.TcCoe
open Idealize.ShloMosaic.StableHlo
open Cert.Hand
open Cert.KernelIdeal.Hand (cmpi_sgt_ofNat ofBool_bit)
open scoped Classical

/-- The overlap above which a pivot suppresses. -/
abbrev half : EReal := Ideal.ofBits .f32 0x3F000000#32

/-- The pivot's position, as the reference counts positions from the end below zero. -/
def pivot (i : IVec S_ 32) : IVec S_ 32 := select (cmpi .slt i (constantI S_ 32 0#32)) (addi i (constantI S_ 32 200#32)) i

/-- The pivot's line of the overlaps, by slot. -/
def line (iou : FVec Ideal S8x91x200x200 .f32) (i : IVec S_ 32) : FVec Ideal S8x91x200 .f32 :=
  shapeCast S8x91x200 (Host.dynamicSlice S8x91x1x200 iou (fun k => ((![constantI S_ 32 0#32, constantI S_ 32 0#32, pivot i, constantI S_ 32 0#32] : Fin 4 → IVec S_ 32) k (Shape.Idx.first Gen.h_S_)).toInt) Gen.sliceFits_S8x91x200x200_S8x91x1x200) Gen.shapeCasts_S8x91x1x200_S8x91x200

/-- The pivot's own mask, by class. -/
def own (keep : IVec S8x91x200 1) (i : IVec S_ 32) : IVec S8x91x1 1 :=
  Host.dynamicSlice S8x91x1 keep (fun k => ((![constantI S_ 32 0#32, constantI S_ 32 0#32, pivot i] : Fin 3 → IVec S_ 32) k (Shape.Idx.first Gen.h_S_)).toInt) Gen.sliceFits_S8x91x200_S8x91x1

/-- One trip's mask. -/
def keepStep (iou : FVec Ideal S8x91x200x200 .f32) (pos : IVec S200 32) (i : IVec S_ 32) (keep : IVec S8x91x200 1) : IVec S8x91x200 1 :=
  andi keep (noti (andi (andi (cmpf .ogt (line iou i) (broadcastInDim S8x91x200 ![] Gen.bcast_S_S8x91x200 (constant S_ .f32 0x3F000000#32)))
    (broadcastInDim S8x91x200 ![0, 1, 2] Gen.bcast_S1x1x200_S8x91x200_0_1_2 (broadcastInDim S1x1x200 ![2] Gen.bcast_S200_S1x1x200_2 (cmpi .sgt pos (broadcastInDim S200 ![] Gen.bcast_S_S200 i)))))
    (broadcastInDim S8x91x200 ![0, 1, 2] Gen.bcast_S8x91x1_S8x91x200_0_1_2 (own keep i))))

/-- The printed trip is this one. -/
theorem keepStep_eq (V : Valuation τ sig (Elt Ideal)) : step_main_v62_4 V = keepStep (V (Proc.devRef .tc main_v62_0)) (V (Proc.devRef .tc main_v62_1))
    (V (Proc.devRef .tc main_v62_3)) (V (Proc.devRef .tc main_v62_4)) := rfl

section Pure
variable (iou : FVec Ideal S8x91x200x200 .f32) (keep : IVec S8x91x200 1) (k : Fin 200) (b : Fin 8) (c : Fin 91) (j : Fin 200)

/-- The pivot's position at trip `k`. -/
theorem pivot_at : pivot (fun _ => BitVec.ofNat 32 k.val) = fun _ => BitVec.ofNat 32 k.val := by
  funext i
  have : IntOp.cmpi .slt (BitVec.ofNat 32 k.val) 0#32 = 0#1 := by
    have e : (BitVec.ofNat 32 k.val).slt 0#32 = false := by
      rw [BitVec.slt_eq_decide, toInt_ofNat_small (by omega)]; simp
    simp only [IntOp.cmpi, e]; rfl
  show (if IntOp.cmpi .slt (BitVec.ofNat 32 k.val) 0#32 = 1#1 then _ else _) = _
  rw [this]
  rfl

/-- A position below the size is its own clamp. -/
theorem clamp_at : (min (max ((k.val : ℕ) : ℤ) 0) ((200 - 1 : ℕ) : ℤ)).toNat = k.val := by
  omega

/-- The pivot's line at trip `k`. -/
theorem line_at : line iou (fun _ => BitVec.ofNat 32 k.val) (ix3 b c j) = iou (ix4 b c k j) := by
  unfold line
  rw [pivot_at]
  pointwise []
  simp only [Host.clampedStart, Matrix.cons_val, constantI, toInt_ofNat_small (show k.val < 2 ^ 31 by omega)]
  refine congrArg iou ?_
  congr 1
  · exact Fin.ext (Nat.zero_add _)
  · exact Fin.ext (Nat.zero_add _)
  · exact Fin.ext (clamp_at k)
  · exact Fin.ext (Nat.zero_add _)

/-- The pivot's own mask at trip `k`. -/
theorem own_at : own keep (fun _ => BitVec.ofNat 32 k.val) (ix3 b c 0) = keep (ix3 b c k) := by
  unfold own
  rw [pivot_at]
  pointwise []
  simp only [Host.clampedStart, Matrix.cons_val, constantI, toInt_ofNat_small (show k.val < 2 ^ 31 by omega)]
  refine congrArg keep ?_
  congr 1
  · exact Fin.ext (Nat.zero_add _)
  · exact Fin.ext (Nat.zero_add _)
  · exact Fin.ext (clamp_at k)

/-- One trip's mask by slot: the pivot, kept, takes out each later slot it overlaps. -/
theorem step_at (pos : IVec S200 32) (hp : ∀ j : Fin 200, pos (ix1 j) = BitVec.ofNat 32 j.val) :
    keepStep iou pos (fun _ => BitVec.ofNat 32 k.val) keep (ix3 b c j) = IntOp.andi (keep (ix3 b c j))
      (~~~IntOp.andi (IntOp.andi (if half < iou (ix4 b c k j) then 1#1 else 0#1) (if k.val < j.val then 1#1 else 0#1)) (keep (ix3 b c k))) := by
  unfold keepStep
  pointwise []
  rw [line_at, own_at, hp, cmpi_sgt_ofNat (by omega) (by omega), ofBool_bit]
end Pure

/-- The mask's word from its truth. -/
theorem keep_bit (p q r s : Prop) [Decidable p] [Decidable q] [Decidable r] [Decidable s] [Decidable (p ∧ ¬(q ∧ r ∧ s))] :
    IntOp.andi (if p then 1#1 else 0#1) (~~~IntOp.andi (IntOp.andi (if q then 1#1 else 0#1) (if r then 1#1 else 0#1)) (if s then 1#1 else 0#1))
      = if p ∧ ¬(q ∧ r ∧ s) then 1#1 else 0#1 := by
  by_cases hp : p <;> by_cases hq : q <;> by_cases hr : r <;> by_cases hs : s <;> simp [hp, hq, hr, hs, IntOp.andi]

variable (ov : Fin 8 → Fin 91 → ℕ → ℕ → EReal) (ab : Fin 8 → Fin 91 → ℕ → Prop)

/-- What the loop's carried buffers hold after `k` trips. -/
structure LoopInv (k : ℕ) (V : Valuation τ sig (Elt Ideal)) : Prop where
  over : ∀ b c (i j : Fin 200), (V (Proc.devRef .tc main_v62_0) : FVec Ideal S8x91x200x200 .f32) (ix4 b c i j) = ov b c i j
  pos : ∀ j : Fin 200, (V (Proc.devRef .tc main_v62_1) : IVec S200 32) (ix1 j) = BitVec.ofNat 32 j.val
  i : (V (Proc.devRef .tc main_v62_3) : IVec S_ 32) = fun _ => BitVec.ofNat 32 k
  keep : ∀ b c (j : Fin 200), (V (Proc.devRef .tc main_v62_4) : IVec S8x91x200 1) (ix3 b c j)
    = BitVec.ofBool (decide (keepAt (fun i j => half < ov b c i j) (ab b c) k j.val))

/-- One trip. -/
theorem loop_step (k : ℕ) (hk : k < 200) (V : Valuation τ sig (Elt Ideal)) (h : LoopInv ov ab k V) : LoopInv ov ab (k + 1) (STEP V) where
  over b c i j := by rw [STEP_main_v62_0]; exact h.over b c i j
  pos j := by rw [STEP_main_v62_1]; exact h.pos j
  i := by
    rw [STEP_main_v62_3]
    unfold step_main_v62_3
    rw [h.i]
    funext j
    exact (BitVec.ofNat_add k 1).symm
  keep b c j := by
    rw [STEP_main_v62_4, keepStep_eq, h.i]
    refine (step_at (V (Proc.devRef .tc main_v62_0)) (V (Proc.devRef .tc main_v62_4)) ⟨k, hk⟩ b c j (V (Proc.devRef .tc main_v62_1)) h.pos).trans ?_
    rw [h.over, h.keep, h.keep, ofBool_bit, ofBool_bit, ofBool_bit, keep_bit]
    congr

/-- The loop's carried buffers after `k` trips. -/
theorem loop_inv (V : Valuation τ sig (Elt Ideal)) (h : LoopInv ov ab 0 V) : ∀ k, k ≤ 200 → LoopInv ov ab k (STEP^[k] V)
  | 0, _ => h
  | k + 1, hk => by
    rw [Function.iterate_succ_apply']
    exact loop_step ov ab k (by omega) _ (loop_inv V h k (by omega))

end Cert.ReferenceIdeal.Hand
-- ==== Proof.TopK.lean ====
/-
  Hand-written. A stable top-k over the extended reals: its entry `j` is the entry of rank `j` (greater values first,
  equal values by position), and its index is that entry's position.
-/
module

public import proofs.«01_k».proof.Proof.Order
public import Idealize.ShloMosaic.Lib.Pointwise
public import Idealize.ShloMosaic.Lib.SortFacts
public import Idealize.ShloMosaic.Lib.SortPrefix

@[expose] public section

noncomputable section

namespace Cert.Hand

open Idealize.ShloMosaic
open scoped Classical

/-! ## The sorting permutation -/

/-- Inserting an element before elements it comes before by position only asks the strict comparison. -/
theorem insert_agree {N : ℕ} (R B : Fin N → Fin N → Bool) (hRB : ∀ k k', k < k' → R k' k = B k' k) (a : Fin N) (l : List (Fin N))
    (hl : ∀ b ∈ l, a < b) : insertBefore R a l = insertBefore B a l := by
  induction l with
  | nil => rfl
  | cons b l ih =>
    unfold insertBefore
    rw [hRB a b (hl b List.mem_cons_self), ih fun b' hb' => hl b' (List.mem_cons_of_mem b hb')]

/-- Two relations that agree on a later position against an earlier one sort an increasing list alike. -/
theorem sort_agree {N : ℕ} (R B : Fin N → Fin N → Bool) (hRB : ∀ k k', k < k' → R k' k = B k' k) (l : List (Fin N))
    (hl : l.Pairwise (· < ·)) : stableSort R l = stableSort B l := by
  induction l with
  | nil => rfl
  | cons a l ih =>
    unfold stableSort
    rw [ih (List.pairwise_cons.mp hl).2]
    refine insert_agree R B hRB a _ fun b hb => (List.pairwise_cons.mp hl).1 b ?_
    exact (perm_stableSort B l).mem_iff.mp hb

/-- The comparison by value and then position. -/
def beforeB {N : ℕ} (a : Fin N → EReal) (k k' : Fin N) : Bool := decide (Before Fin.val a k k')

/-- It is a strict total order. -/
theorem beforeB_total {N : ℕ} (a : Fin N → EReal) : StrictTotalBefore (beforeB a) where
  irrefl k := by simp [beforeB, Before.irrefl]
  trans k l n h h' := by
    simp only [beforeB, decide_eq_true_eq] at h h' ⊢
    exact h.trans h'
  total k l h := by
    simp only [beforeB, decide_eq_true_eq]
    exact Before.total Fin.val_injective h

/-- The source of sorted position `i` has rank `i`. -/
theorem rank_sortedFrom {N : ℕ} (a : Fin N → EReal) (R : Fin N → Fin N → Bool) (hR : ∀ k k', R k k' = true ↔ a k' < a k)
    (i : Fin N) : rank Fin.val a (sortedFrom R i) = i.val := by
  have e : sortedFrom R = sortedFrom (beforeB a) := by
    funext k
    unfold sortedFrom
    have : sortPositions N R = sortPositions N (beforeB a) := by
      refine sort_agree R _ (fun k k' h => ?_) _ (List.pairwise_lt_finRange N)
      rw [Bool.eq_iff_iff, hR, beforeB, decide_eq_true_eq, Before]
      refine ⟨.inl, fun h' => h'.resolve_right fun h'' => ?_⟩
      have := h''.2
      have : k.val < k'.val := h
      omega
    rw [List.get_of_eq this]
    rfl
  rw [e]
  have hB := beforeB_total a
  have key : ∀ p q : Fin N, Before Fin.val a (sortedFrom (beforeB a) p) (sortedFrom (beforeB a) q) ↔ p < q := by
    intro p q
    have hno := sortedFrom_noInversion (beforeB a) (beforeB a) (fun a b h => hB.asymm a b h) (fun _ _ h => h) hB.negTrans
    constructor
    · intro h
      by_contra hn
      rcases lt_or_eq_of_le (not_lt.mp hn) with h' | h'
      · have := hno q p h'
        simp only [beforeB, decide_eq_false_iff_not] at this
        exact this h
      · rw [h'] at h; exact Before.irrefl _ h
    · intro h
      have := hno p q h
      simp only [beforeB, decide_eq_false_iff_not] at this
      exact (Before.total Fin.val_injective fun e => h.ne (sortedFrom_injective _ e)).resolve_right this
  have himg : (Finset.univ.filter fun m => Before Fin.val a m (sortedFrom (beforeB a) i)) = (Finset.Iio i).image (sortedFrom (beforeB a)) := by
    ext m
    obtain ⟨p, rfl⟩ := sortedFrom_surjective (beforeB a) m
    simp only [Finset.mem_filter, Finset.mem_univ, true_and, key, Finset.mem_image, Finset.mem_Iio]
    exact ⟨fun h => ⟨p, h, rfl⟩, fun ⟨q, hq, hqp⟩ => (sortedFrom_injective _ hqp) ▸ hq⟩
  have hc : rank Fin.val a (sortedFrom (beforeB a) i) = ((Finset.Iio i).image (sortedFrom (beforeB a))).card := by
    rw [← himg]; rfl
  rw [hc, Finset.card_image_of_injective _ (sortedFrom_injective _), Fin.card_Iio]

/-- The source of sorted position `i` is the entry of rank `i`. -/
theorem sortedFrom_ranked {N : ℕ} [NeZero N] (a : Fin N → EReal) (R : Fin N → Fin N → Bool) (hR : ∀ k k', R k k' = true ↔ a k' < a k)
    (i : Fin N) : sortedFrom R i = ranked Fin.val a i.val :=
  (ranked_eq Fin.val_injective (rank_sortedFrom a R hR i)).symm

/-! ## Top-k along the last axis -/

/-- The order a top-k compares by, at the extended reals. -/
theorem gt_iff (u v : EReal) : (FloatOps.cmpfTotal (F := Ideal) (φ := .f32) .gt u v == 1#1) = true ↔ v < u := by
  have e : FloatOps.cmpfTotal (F := Ideal) (φ := .f32) .gt u v = BitVec.ofBool (decide (v < u)) := rfl
  rw [e]
  by_cases h : v < u <;> simp [h]

section Three
variable {A B N K : ℕ} [NeZero N] (x : (⟨3, ![A, B, N]⟩ : Shape).Idx → EReal)
  (h : (⟨3, ![A, B, N]⟩ : Shape).Slices (fun _ => 0) ⟨3, ![A, B, K]⟩) (hK : K ≤ N) (p : Fin A) (q : Fin B) (k : Fin K)

/-- Moving the last coordinate of three. -/
theorem along3 (n n' : Fin N) : Shape.Idx.along (s := ⟨3, ![A, B, N]⟩) (ix3 p q n) (⟨2, Nat.lt_succ_self 2⟩ : Fin 3) n' = ix3 p q n' := by
  funext a
  match a with
  | ⟨0, _⟩ => rfl
  | ⟨1, _⟩ => rfl
  | ⟨2, _⟩ => rfl

/-- The cut to the leading entries reads the entry itself. -/
theorem cut3 {α : Type} (y : (⟨3, ![A, B, N]⟩ : Shape).Idx → α) :
    extractStridedSlice ⟨3, ![A, B, K]⟩ (fun _ => 0) y h (ix3 p q k) = y (ix3 p q (k.castLE hK)) := by
  unfold extractStridedSlice
  congr 1
  funext a
  match a with
  | ⟨0, _⟩ => exact Fin.ext (Nat.zero_add _)
  | ⟨1, _⟩ => exact Fin.ext (Nat.zero_add _)
  | ⟨2, _⟩ => exact Fin.ext (Nat.zero_add _)

/-- The sorting permutation of a line along the last axis of three. -/
theorem perm3 (n : Fin N) : sortedFrom (fun k k' => FloatOps.cmpfTotal (F := Ideal) (φ := .f32) .gt
      (x (Shape.Idx.along (s := ⟨3, ![A, B, N]⟩) (ix3 p q n) (⟨2, Nat.lt_succ_self 2⟩ : Fin 3) k))
      (x (Shape.Idx.along (s := ⟨3, ![A, B, N]⟩) (ix3 p q n) (⟨2, Nat.lt_succ_self 2⟩ : Fin 3) k')) == 1#1) n
    = ranked Fin.val (fun n : Fin N => x (ix3 p q n)) n.val := by
  refine sortedFrom_ranked _ _ (fun k k' => ?_) n
  rw [gt_iff, along3, along3]

include hK in
/-- The values of a top-k along the last axis of three. -/
theorem topK3_val : (Host.topK (s := ⟨3, ![A, B, N]⟩) ⟨3, ![A, B, K]⟩ 2 (FloatOps.cmpfTotal (F := Ideal) (φ := .f32) .gt) x h).1 (ix3 p q k)
    = x (ix3 p q (ranked Fin.val (fun n : Fin N => x (ix3 p q n)) k.val)) := by
  unfold Host.topK
  dsimp only
  rw [cut3 h hK]
  unfold Host.sort2
  rw [dif_pos (show 2 < 3 by omega)]
  exact (congrArg (fun z => x (Shape.Idx.along (s := ⟨3, ![A, B, N]⟩) (ix3 p q (k.castLE hK)) (⟨2, Nat.lt_succ_self 2⟩ : Fin 3) z)) (perm3 x p q (k.castLE hK))).trans
    (congrArg x (along3 p q _ _))

include hK in
/-- The positions of a top-k along the last axis of three. -/
theorem topK3_idx : (Host.topK (s := ⟨3, ![A, B, N]⟩) ⟨3, ![A, B, K]⟩ 2 (FloatOps.cmpfTotal (F := Ideal) (φ := .f32) .gt) x h).2 (ix3 p q k)
    = BitVec.ofNat 32 (ranked Fin.val (fun n : Fin N => x (ix3 p q n)) k.val).val := by
  unfold Host.topK
  dsimp only
  rw [cut3 h hK]
  unfold Host.sort2
  rw [dif_pos (show 2 < 3 by omega)]
  dsimp only
  rw [dif_pos (show 2 < 3 by omega)]
  exact congrArg (fun z : Fin N => BitVec.ofNat 32 z.val) (perm3 x p q (k.castLE hK))
end Three

section Two
variable {A N K : ℕ} [NeZero N] (x : (⟨2, ![A, N]⟩ : Shape).Idx → EReal)
  (h : (⟨2, ![A, N]⟩ : Shape).Slices (fun _ => 0) ⟨2, ![A, K]⟩) (hK : K ≤ N) (p : Fin A) (k : Fin K)

/-- Moving the last coordinate of two. -/
theorem along2 (n n' : Fin N) : Shape.Idx.along (s := ⟨2, ![A, N]⟩) (ix2 p n) (⟨1, Nat.lt_succ_self 1⟩ : Fin 2) n' = ix2 p n' := by
  funext a
  match a with
  | ⟨0, _⟩ => rfl
  | ⟨1, _⟩ => rfl

/-- The cut to the leading entries reads the entry itself. -/
theorem cut2 {α : Type} (y : (⟨2, ![A, N]⟩ : Shape).Idx → α) :
    extractStridedSlice ⟨2, ![A, K]⟩ (fun _ => 0) y h (ix2 p k) = y (ix2 p (k.castLE hK)) := by
  unfold extractStridedSlice
  congr 1
  funext a
  match a with
  | ⟨0, _⟩ => exact Fin.ext (Nat.zero_add _)
  | ⟨1, _⟩ => exact Fin.ext (Nat.zero_add _)

/-- The sorting permutation of a line along the last axis of two. -/
theorem perm2 (n : Fin N) : sortedFrom (fun k k' => FloatOps.cmpfTotal (F := Ideal) (φ := .f32) .gt
      (x (Shape.Idx.along (s := ⟨2, ![A, N]⟩) (ix2 p n) (⟨1, Nat.lt_succ_self 1⟩ : Fin 2) k))
      (x (Shape.Idx.along (s := ⟨2, ![A, N]⟩) (ix2 p n) (⟨1, Nat.lt_succ_self 1⟩ : Fin 2) k')) == 1#1) n
    = ranked Fin.val (fun n : Fin N => x (ix2 p n)) n.val := by
  refine sortedFrom_ranked _ _ (fun k k' => ?_) n
  rw [gt_iff, along2, along2]

include hK in
/-- The values of a top-k along the last axis of two. -/
theorem topK2_val : (Host.topK (s := ⟨2, ![A, N]⟩) ⟨2, ![A, K]⟩ 1 (FloatOps.cmpfTotal (F := Ideal) (φ := .f32) .gt) x h).1 (ix2 p k)
    = x (ix2 p (ranked Fin.val (fun n : Fin N => x (ix2 p n)) k.val)) := by
  unfold Host.topK
  dsimp only
  rw [cut2 h hK]
  unfold Host.sort2
  rw [dif_pos (show 1 < 2 by omega)]
  exact (congrArg (fun z => x (Shape.Idx.along (s := ⟨2, ![A, N]⟩) (ix2 p (k.castLE hK)) (⟨1, Nat.lt_succ_self 1⟩ : Fin 2) z)) (perm2 x p (k.castLE hK))).trans
    (congrArg x (along2 p _ _))

include hK in
/-- The positions of a top-k along the last axis of two. -/
theorem topK2_idx : (Host.topK (s := ⟨2, ![A, N]⟩) ⟨2, ![A, K]⟩ 1 (FloatOps.cmpfTotal (F := Ideal) (φ := .f32) .gt) x h).2 (ix2 p k)
    = BitVec.ofNat 32 (ranked Fin.val (fun n : Fin N => x (ix2 p n)) k.val).val := by
  unfold Host.topK
  dsimp only
  rw [cut2 h hK]
  unfold Host.sort2
  rw [dif_pos (show 1 < 2 by omega)]
  dsimp only
  rw [dif_pos (show 1 < 2 by omega)]
  exact congrArg (fun z : Fin N => BitVec.ofNat 32 z.val) (perm2 x p (k.castLE hK))
end Two

end Cert.Hand
-- ==== Proof.Gathers.lean ====
/-
  Hand-written. The reference's four gathers read at an index: the entry at the start index, read signed and clamped.
-/
module

public import proofs.«01_k».proof.Proof.Gen.ReferenceIdeal.Run
public import Idealize.ShloMosaic.Lib.Pointwise

@[expose] public section

set_option maxRecDepth 16384

noncomputable section

namespace Cert.ReferenceIdeal.Hand

open Cert.ReferenceIdeal
open Idealize.ShloMosaic

variable {α : Type}

/-- The three summands of a gather's coordinate, each known. -/
theorem coord_of {s si t : Shape} {d : GatherDims s si t} {j : t.Idx} {idx : IVec si 32} {a : Fin s.rank} {p q r v : ℕ}
    (hp : d.start j idx a = p) (hq : d.batchCoord j a = q) (hr : d.offCoord j a = r) (h : p + q + r = v) :
    (d.operandIdx j idx a).val = v := by
  show d.start j idx a + d.batchCoord j a + d.offCoord j a = v
  rw [hp, hq, hr, h]

/-- The boxes gathered by class and rank: where the start index is read. -/
theorem start1 (idx : IVec S8x91x200x1 32) (b : Fin 8) (c : Fin 91) (j : Fin 200) (r : Fin 4) :
    (gather_S8x20000x4_S8x91x200x1_S8x91x200x4_3_1_0_0_1_3_114).start (ix4 b c j r) idx (1 : Fin 3) = min (idx (ix4 b c j 0)).toInt.toNat 19999 := by
  unfold GatherDims.start
  rw [dif_pos (show (1 : Fin 3) ∈ (gather_S8x20000x4_S8x91x200x1_S8x91x200x4_3_1_0_0_1_3_114).startIndexMap from List.mem_singleton.mpr rfl)]
  have hsi : (gather_S8x20000x4_S8x91x200x1_S8x91x200x4_3_1_0_0_1_3_114).siIdx (ix4 b c j r) ⟨List.idxOf (1 : Fin 3) (gather_S8x20000x4_S8x91x200x1_S8x91x200x4_3_1_0_0_1_3_114).startIndexMap,
      List.idxOf_lt_length_iff.2 (List.mem_singleton.mpr rfl)⟩ = (ix4 b c j 0) := by
    funext a; refine Fin.ext ?_
    match a with
    | ⟨0, _⟩ => rfl
    | ⟨1, _⟩ => rfl
    | ⟨2, _⟩ => rfl
    | ⟨3, _⟩ => rfl
  rw [hsi]
  rfl

/-- The boxes gathered by class and rank. -/
theorem gather1_at (x : S8x20000x4.Idx → α) (idx : IVec S8x91x200x1 32) (b : Fin 8) (c : Fin 91) (j : Fin 200) (r : Fin 4) :
    Host.gather gather_S8x20000x4_S8x91x200x1_S8x91x200x4_3_1_0_0_1_3_114 x idx (ix4 b c j r)
      = x (ix3 b ⟨min (idx (ix4 b c j 0)).toInt.toNat 19999, by omega⟩ r) := by
  refine congrArg x (funext fun a => ?_)
  match a with
  | ⟨0, _⟩ => exact Fin.ext (coord_of (p := 0) (q := b.val) (r := 0) rfl rfl rfl (by show 0 + _ + _ = _; rw [Nat.zero_add]; rfl))
  | ⟨1, _⟩ => exact Fin.ext (coord_of (start1 idx b c j r) rfl rfl (by rfl))
  | ⟨2, _⟩ => exact Fin.ext (coord_of (p := 0) (q := 0) (r := r.val) rfl rfl rfl (by show 0 + _ + _ = _; rw [Nat.zero_add]; rfl))

/-- The sorted boxes gathered by slot: where the start index is read. -/
theorem start2 (idx : IVec S8x91x100x1 32) (b : Fin 8) (c : Fin 91) (l : Fin 100) (r : Fin 4) :
    (gather_S8x91x200x4_S8x91x100x1_S8x91x100x4_3_2_01_01_2_3_1114).start (ix4 b c l r) idx (2 : Fin 4) = min (idx (ix4 b c l 0)).toInt.toNat 199 := by
  unfold GatherDims.start
  rw [dif_pos (show (2 : Fin 4) ∈ (gather_S8x91x200x4_S8x91x100x1_S8x91x100x4_3_2_01_01_2_3_1114).startIndexMap from List.mem_singleton.mpr rfl)]
  have hsi : (gather_S8x91x200x4_S8x91x100x1_S8x91x100x4_3_2_01_01_2_3_1114).siIdx (ix4 b c l r) ⟨List.idxOf (2 : Fin 4) (gather_S8x91x200x4_S8x91x100x1_S8x91x100x4_3_2_01_01_2_3_1114).startIndexMap,
      List.idxOf_lt_length_iff.2 (List.mem_singleton.mpr rfl)⟩ = (ix4 b c l 0) := by
    funext a; refine Fin.ext ?_
    match a with
    | ⟨0, _⟩ => rfl
    | ⟨1, _⟩ => rfl
    | ⟨2, _⟩ => rfl
    | ⟨3, _⟩ => rfl
  rw [hsi]
  rfl

/-- The sorted boxes gathered by slot. -/
theorem gather2_at (x : S8x91x200x4.Idx → α) (idx : IVec S8x91x100x1 32) (b : Fin 8) (c : Fin 91) (l : Fin 100) (r : Fin 4) :
    Host.gather gather_S8x91x200x4_S8x91x100x1_S8x91x100x4_3_2_01_01_2_3_1114 x idx (ix4 b c l r)
      = x (ix4 b c ⟨min (idx (ix4 b c l 0)).toInt.toNat 199, by omega⟩ r) := by
  refine congrArg x (funext fun a => ?_)
  match a with
  | ⟨0, _⟩ => exact Fin.ext (coord_of (p := 0) (q := b.val) (r := 0) rfl rfl rfl (by show 0 + _ + _ = _; rw [Nat.zero_add]; rfl))
  | ⟨1, _⟩ => exact Fin.ext (coord_of (p := 0) (q := c.val) (r := 0) rfl rfl rfl (by show 0 + _ + _ = _; rw [Nat.zero_add]; rfl))
  | ⟨2, _⟩ => exact Fin.ext (coord_of (start2 idx b c l r) rfl rfl (by rfl))
  | ⟨3, _⟩ => exact Fin.ext (coord_of (p := 0) (q := 0) (r := r.val) rfl rfl rfl (by show 0 + _ + _ = _; rw [Nat.zero_add]; rfl))

/-- The boxes of the merged table gathered: where the start index is read. -/
theorem start3 (idx : IVec S8x100x1 32) (b : Fin 8) (l : Fin 100) (r : Fin 4) :
    (gather_S8x9100x4_S8x100x1_S8x100x4_2_1_0_0_1_2_114).start (ix3 b l r) idx (1 : Fin 3) = min (idx (ix3 b l 0)).toInt.toNat 9099 := by
  unfold GatherDims.start
  rw [dif_pos (show (1 : Fin 3) ∈ (gather_S8x9100x4_S8x100x1_S8x100x4_2_1_0_0_1_2_114).startIndexMap from List.mem_singleton.mpr rfl)]
  have hsi : (gather_S8x9100x4_S8x100x1_S8x100x4_2_1_0_0_1_2_114).siIdx (ix3 b l r) ⟨List.idxOf (1 : Fin 3) (gather_S8x9100x4_S8x100x1_S8x100x4_2_1_0_0_1_2_114).startIndexMap,
      List.idxOf_lt_length_iff.2 (List.mem_singleton.mpr rfl)⟩ = (ix3 b l 0) := by
    funext a; refine Fin.ext ?_
    match a with
    | ⟨0, _⟩ => rfl
    | ⟨1, _⟩ => rfl
    | ⟨2, _⟩ => rfl
  rw [hsi]
  rfl

/-- The boxes of the merged table gathered. -/
theorem gather3_at (x : S8x9100x4.Idx → α) (idx : IVec S8x100x1 32) (b : Fin 8) (l : Fin 100) (r : Fin 4) :
    Host.gather gather_S8x9100x4_S8x100x1_S8x100x4_2_1_0_0_1_2_114 x idx (ix3 b l r)
      = x (ix3 b ⟨min (idx (ix3 b l 0)).toInt.toNat 9099, by omega⟩ r) := by
  refine congrArg x (funext fun a => ?_)
  match a with
  | ⟨0, _⟩ => exact Fin.ext (coord_of (p := 0) (q := b.val) (r := 0) rfl rfl rfl (by show 0 + _ + _ = _; rw [Nat.zero_add]; rfl))
  | ⟨1, _⟩ => exact Fin.ext (coord_of (start3 idx b l r) rfl rfl (by rfl))
  | ⟨2, _⟩ => exact Fin.ext (coord_of (p := 0) (q := 0) (r := r.val) rfl rfl rfl (by show 0 + _ + _ = _; rw [Nat.zero_add]; rfl))

/-- The classes of the merged table gathered: where the start index is read. -/
theorem start4 (idx : IVec S8x100x1 32) (b : Fin 8) (l : Fin 100) :
    (gather_S9100_S8x100x1_S8x100_n_0_n_n_0_2_1).start (ix2 b l) idx (0 : Fin 1) = min (idx (ix3 b l 0)).toInt.toNat 9099 := by
  unfold GatherDims.start
  rw [dif_pos (show (0 : Fin 1) ∈ (gather_S9100_S8x100x1_S8x100_n_0_n_n_0_2_1).startIndexMap from List.mem_singleton.mpr rfl)]
  have hsi : (gather_S9100_S8x100x1_S8x100_n_0_n_n_0_2_1).siIdx (ix2 b l) ⟨List.idxOf (0 : Fin 1) (gather_S9100_S8x100x1_S8x100_n_0_n_n_0_2_1).startIndexMap,
      List.idxOf_lt_length_iff.2 (List.mem_singleton.mpr rfl)⟩ = (ix3 b l 0) := by
    funext a; refine Fin.ext ?_
    match a with
    | ⟨0, _⟩ => rfl
    | ⟨1, _⟩ => rfl
    | ⟨2, _⟩ => rfl
  rw [hsi]
  rfl

/-- The classes of the merged table gathered. -/
theorem gather4_at (x : S9100.Idx → α) (idx : IVec S8x100x1 32) (b : Fin 8) (l : Fin 100) :
    Host.gather gather_S9100_S8x100x1_S8x100_n_0_n_n_0_2_1 x idx (ix2 b l)
      = x (ix1 ⟨min (idx (ix3 b l 0)).toInt.toNat 9099, by omega⟩) := by
  refine congrArg x (funext fun a => ?_)
  match a with
  | ⟨0, _⟩ => exact Fin.ext (coord_of (start4 idx b l) rfl rfl (by rfl))

end Cert.ReferenceIdeal.Hand
-- ==== Proof.RefValue.lean ====
/-
  Hand-written. The reference's terms around the loop, read at one image, are the detection of that image.
-/
module

public import proofs.«01_k».proof.Proof.RefTerms
public import proofs.«01_k».proof.Proof.RefLoop
public import proofs.«01_k».proof.Proof.TopK
public import proofs.«01_k».proof.Proof.Gathers
public import Mathlib.Logic.Equiv.Fin.Basic

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe
open Idealize.ShloMosaic.StableHlo
open Cert.Hand
open Cert.KernelIdeal.Hand (cmpi_sgt_ofNat ofBool_bit)
open scoped Classical

/-- A position is not below zero. -/
theorem slt_zero {n : ℕ} (h : n < 2 ^ 31) : IntOp.cmpi .slt (BitVec.ofNat 32 n) 0#32 = 0#1 := by
  have e : (BitVec.ofNat 32 n).slt 0#32 = false := by
    rw [BitVec.slt_eq_decide, toInt_ofNat_small h]; simp
  simp only [IntOp.cmpi, e]; rfl

/-- A position below the size is its own clamp. -/
theorem clamp_pos {n m : ℕ} (h : n ≤ m) (hm : m < 2 ^ 31) : min (BitVec.ofNat 32 n).toInt.toNat m = n := by
  rw [toInt_ofNat_small (by omega), Int.toNat_natCast, min_eq_left h]

section Image
variable (a0 : FVec Ideal S8x20000x1x4 .f32) (a1 : FVec Ideal S8x20000x91 .f32) (b : Fin 8)

/-- The image's scores. -/
abbrev imgS (c : Fin 91) (n : Fin 20000) : EReal := a1 (ix3 b n c)
/-- The image's boxes. -/
abbrev imgB (n : Fin 20000) (r : Fin 4) : EReal := a0 (ix4 b n 0 r)

/-- The masked scores by class. -/
theorem masked_at (c : Fin 91) (n : Fin 20000) : maskedT a1 (ix3 b c n) = rowR (imgS a1 b) c n := by
  pointwise [maskedT]
  rfl

/-- The scores by rank. -/
theorem val_at (c : Fin 91) (k : Fin 200) : valT (maskedT a1) (ix3 b c k) = rowR (imgS a1 b) c (pickR (imgS a1 b) c k) := by
  refine (topK3_val (maskedT a1) sliceFits_S8x91x20000_S8x91x200 (by decide) b c k).trans ?_
  rw [show (fun n : Fin 20000 => maskedT a1 (ix3 b c n)) = rowR (imgS a1 b) c from funext fun n => masked_at a1 b c n]
  exact masked_at a1 b c _

/-- The anchors by rank. -/
theorem idx_at (c : Fin 91) (k : Fin 200) : idxT (maskedT a1) (ix3 b c k) = BitVec.ofNat 32 (pickR (imgS a1 b) c k).val := by
  refine (topK3_idx (maskedT a1) sliceFits_S8x91x20000_S8x91x200 (by decide) b c k).trans ?_
  rw [show (fun n : Fin 20000 => maskedT a1 (ix3 b c n)) = rowR (imgS a1 b) c from funext fun n => masked_at a1 b c n]
  rfl

/-- Anchors counted from the start stay. -/
theorem wrap1_at (i : IVec S8x91x200 32) (c : Fin 91) (k : Fin 200) (n : Fin 20000) (h : i (ix3 b c k) = BitVec.ofNat 32 n.val) :
    wrap1 i (ix3 b c k) = BitVec.ofNat 32 n.val := by
  pointwise [wrap1]
  rw [h, slt_zero (by omega)]
  rfl

/-- The boxes' coordinates by rank. -/
theorem box_at (c : Fin 91) (k : Fin 200) (r : Fin 4) :
    boxT (shapeCast S8x20000x4 a0 shapeCasts_S8x20000x1x4_S8x20000x4) (idxT (maskedT a1)) (ix4 b c k r) = boxR (imgS a1 b) (imgB a0 b) c r k := by
  unfold boxT
  rw [gather1_at]
  have e : broadcastInDim S8x91x200x1 ![0, 1, 2] bcast_S8x91x200_S8x91x200x1_0_1_2 (wrap1 (idxT (maskedT a1))) (ix4 b c k 0) = BitVec.ofNat 32 (pickR (imgS a1 b) c k).val := by
    pointwise []
    exact wrap1_at b _ c k _ (idx_at a1 b c k)
  simp only [e, clamp_pos (show (pickR (imgS a1 b) c k).val ≤ 19999 by omega) (by norm_num)]
  pointwise []
  rfl

/-- The overlap of two ranks. -/
theorem iou_at (x : FVec Ideal S8x91x200x4 .f32) (g : Fin 4 → ℕ → EReal) (c : Fin 91) (h : ∀ (k : Fin 200) r, x (ix4 b c k r) = g r k) (i j : Fin 200) :
    iouT x (ix4 b c i j) = overlap (g 0) (g 1) (g 2) (g 3) i j := by
  have e0 : ∀ k : Fin 200, y1T x (ix3 b c k) = g 0 k := fun k => by
    pointwise [y1T]
    exact h k 0
  have e1 : ∀ k : Fin 200, x1T x (ix3 b c k) = g 1 k := fun k => by
    pointwise [x1T]
    exact h k 1
  have e2 : ∀ k : Fin 200, y2T x (ix3 b c k) = g 2 k := fun k => by
    pointwise [y2T]
    exact h k 2
  have e3 : ∀ k : Fin 200, x2T x (ix3 b c k) = g 3 k := fun k => by
    pointwise [x2T]
    exact h k 3
  pointwise [iouT, interT, areaT, fstT, sndT, numT]
  simp only [e0, e1, e2, e3]
  rfl

/-- The mask the loop starts from. -/
theorem above_at (c : Fin 91) (k : Fin 200) : aboveT (valT (maskedT a1)) (ix3 b c k) = BitVec.ofBool (decide (aboveR (imgS a1 b) c k)) := by
  pointwise [aboveT]
  rw [val_at]
  congr

/-! ### After the loop -/

/-- The image's kept scores. -/
abbrev imgF : Fin 91 × Fin 256 → EReal := fsR (imgS a1 b) (imgB a0 b)
/-- Two hundred ranks of the table's 256. -/
theorem le200 : 200 ≤ 256 := by decide
/-- A hundred ranks of the two hundred. -/
theorem le100 : 100 ≤ 200 := by decide
/-- The slot of a class's `r`-th best kept score. -/
abbrev imgSlot (c : Fin 91) (r : Fin 100) : Fin 200 := slotOf le200 (imgF a0 a1 b) c r
/-- The short table. -/
abbrev imgShort (y : Fin 91 × Fin 100) : EReal := shortOf le200 (imgF a0 a1 b) y

variable (K : IVec S8x91x200 1)
  (hK : ∀ c (j : Fin 200), K (ix3 b c j) = BitVec.ofBool (decide (keepAt (clashR (imgS a1 b) (imgB a0 b) c) (aboveR (imgS a1 b) c) 200 j.val)))

/-- The final mask's scores, the suppressed ones dropped. -/
abbrev keptM : FVec Ideal S8x91x200 .f32 := keptT K (valT (maskedT a1))

include hK in
/-- The kept scores by rank. -/
theorem kept_at (c : Fin 91) (j : Fin 200) : keptM a1 K (ix3 b c j) = rowOf le200 (imgF a0 a1 b) c j := by
  show keptT K (valT (maskedT a1)) (ix3 b c j) = _
  pointwise [keptT]
  rw [hK, val_at]
  rw [ofBool_bit]
  unfold rowOf imgF fsR
  by_cases h : keepAt (clashR (imgS a1 b) (imgB a0 b) c) (aboveR (imgS a1 b) c) 200 j.val
  · rw [if_pos h, if_pos ⟨j.isLt, h⟩]; rfl
  · rw [if_neg h, if_neg (fun h' => h h'.2)]; rfl

include hK in
/-- The short table's scores. -/
theorem val2_at (c : Fin 91) (r : Fin 100) : val2T (keptM a1 K) (ix3 b c r) = imgShort a0 a1 b (c, r) := by
  refine (topK3_val (keptM a1 K) sliceFits_S8x91x200_S8x91x100 (by decide) b c r).trans ?_
  rw [show (fun n : Fin 200 => keptM a1 K (ix3 b c n)) = rowOf le200 (imgF a0 a1 b) c from funext fun n => kept_at a0 a1 b K hK c n]
  exact kept_at a0 a1 b K hK c _

include hK in
/-- The short table's slots. -/
theorem idx2_at (c : Fin 91) (r : Fin 100) : idx2T (keptM a1 K) (ix3 b c r) = BitVec.ofNat 32 (imgSlot a0 a1 b c r).val := by
  refine (topK3_idx (keptM a1 K) sliceFits_S8x91x200_S8x91x100 (by decide) b c r).trans ?_
  rw [show (fun n : Fin 200 => keptM a1 K (ix3 b c n)) = rowOf le200 (imgF a0 a1 b) c from funext fun n => kept_at a0 a1 b K hK c n]
  rfl

/-- Slots counted from the start stay. -/
theorem wrap2_at (i : IVec S8x91x100 32) (c : Fin 91) (k : Fin 100) (n : Fin 200) (h : i (ix3 b c k) = BitVec.ofNat 32 n.val) :
    wrap2 i (ix3 b c k) = BitVec.ofNat 32 n.val := by
  pointwise [wrap2]
  rw [h, slt_zero (by omega)]
  rfl

/-- The boxes by rank. -/
abbrev boxM : FVec Ideal S8x91x200x4 .f32 := boxT (shapeCast S8x20000x4 a0 shapeCasts_S8x20000x1x4_S8x20000x4) (idxT (maskedT a1))

include hK in
/-- The short table's boxes. -/
theorem box2_at (c : Fin 91) (k : Fin 100) (r : Fin 4) :
    box2T (boxM a0 a1) (idx2T (keptM a1 K)) (ix4 b c k r) = boxR (imgS a1 b) (imgB a0 b) c r (imgSlot a0 a1 b c k) := by
  unfold box2T
  rw [gather2_at]
  have e : broadcastInDim S8x91x100x1 ![0, 1, 2] bcast_S8x91x100_S8x91x100x1_0_1_2 (wrap2 (idx2T (keptM a1 K))) (ix4 b c k 0) = BitVec.ofNat 32 (imgSlot a0 a1 b c k).val := by
    pointwise []
    exact wrap2_at b _ c k _ (idx2_at a0 a1 b K hK c k)
  simp only [e, clamp_pos (show (imgSlot a0 a1 b c k).val ≤ 199 by omega) (by norm_num)]
  exact box_at a0 a1 b c _ r

/-- The row's places. -/
def place : Fin 91 × Fin 100 ≃ Fin 9100 := finProdFinEquiv

/-- A place of the row. -/
theorem place_val (y : Fin 91 × Fin 100) : (place y).val = flatPos 91 100 y := by
  show y.2.val + 100 * y.1.val = y.1.val * 100 + y.2.val
  omega

/-- The class of a place. -/
theorem place_div (y : Fin 91 × Fin 100) : (place y).val / 100 = y.1.val := by
  rw [place_val]; unfold flatPos; omega

/-- The rank of a place. -/
theorem place_mod (y : Fin 91 × Fin 100) : (place y).val % 100 = y.2.val := by
  rw [place_val]; unfold flatPos; omega

/-- The row of scores. -/
theorem flatT_at (x : FVec Ideal S8x91x100 .f32) (y : Fin 91 × Fin 100) : flatT x (ix2 b (place y)) = x (ix3 b y.1 y.2) := by
  pointwise [flatT]
  rw [show (⟨(place y).val / 100, by omega⟩ : Fin 91) = y.1 from Fin.ext (place_div y), show (⟨(place y).val % 100, by omega⟩ : Fin 100) = y.2 from Fin.ext (place_mod y)]

/-- The row of boxes. -/
theorem flatB_at (x : FVec Ideal S8x91x100x4 .f32) (y : Fin 91 × Fin 100) (r : Fin 4) : flatB x (ix3 b (place y) r) = x (ix4 b y.1 y.2 r) := by
  pointwise [flatB]
  rw [show (⟨(place y).val / 100, by omega⟩ : Fin 91) = y.1 from Fin.ext (place_div y), show (⟨(place y).val % 100, by omega⟩ : Fin 100) = y.2 from Fin.ext (place_mod y)]

/-- The row of classes. -/
theorem flatC_at (y : Fin 91 × Fin 100) : flatC (ix1 (place y)) = BitVec.ofNat 32 y.1.val := by
  pointwise [flatC]
  rw [place_div]

/-- The class and rank of the `l`-th best of the short table. -/
def bestS (l : Fin 100) : Fin 91 × Fin 100 := ranked (flatPos 91 100) (imgShort a0 a1 b) l.val

/-- It has rank `l`. -/
theorem rank_bestS (l : Fin 100) : rank (flatPos 91 100) (imgShort a0 a1 b) (bestS a0 a1 b l) = l.val :=
  rank_ranked (flatPos_injective 91 100) (by rw [Fintype.card_prod, Fintype.card_fin, Fintype.card_fin]; omega)

/-- The row of scores after the loop. -/
abbrev rowM : FVec Ideal S8x9100 .f32 := flatT (val2T (keptM a1 K))

include hK in
/-- The row's scores by place. -/
theorem rowM_at (y : Fin 91 × Fin 100) : rowM a1 K (ix2 b (place y)) = imgShort a0 a1 b y :=
  (flatT_at b _ y).trans (val2_at a0 a1 b K hK y.1 y.2)

include hK in
/-- The `l`-th best place of the row. -/
theorem ranked_place (l : Fin 100) : ranked Fin.val (fun n : Fin 9100 => rowM a1 K (ix2 b n)) l.val = place (bestS a0 a1 b l) := by
  refine ranked_eq Fin.val_injective ?_
  rw [rank_equiv place (pos := flatPos 91 100) place_val]
  simp only [rowM_at a0 a1 b K hK]
  exact rank_bestS a0 a1 b l

include hK in
/-- The best scores of the row. -/
theorem val3_at (l : Fin 100) : val3T (rowM a1 K) (ix2 b l) = imgShort a0 a1 b (bestS a0 a1 b l) := by
  refine (topK2_val (rowM a1 K) sliceFits_S8x9100_S8x100 (by decide) b l).trans ?_
  rw [ranked_place a0 a1 b K hK]
  exact rowM_at a0 a1 b K hK _

include hK in
/-- Their places. -/
theorem idx3_at (l : Fin 100) : idx3T (rowM a1 K) (ix2 b l) = BitVec.ofNat 32 (place (bestS a0 a1 b l)).val := by
  refine (topK2_idx (rowM a1 K) sliceFits_S8x9100_S8x100 (by decide) b l).trans ?_
  rw [ranked_place a0 a1 b K hK]

include hK in
/-- Their places as a column. -/
theorem col_at (l : Fin 100) : colT (idx3T (rowM a1 K)) (ix3 b l 0) = BitVec.ofNat 32 (place (bestS a0 a1 b l)).val := by
  pointwise [colT, wrap3]
  rw [idx3_at a0 a1 b K hK, slt_zero (by omega)]
  rfl

/-- The short table's `l`-th best is the whole table's, where it is above the cut. -/
theorem merge_at (l : Fin 100) : (validR (imgS a1 b) (imgB a0 b) l.val ↔ cut < imgShort a0 a1 b (bestS a0 a1 b l))
    ∧ (validR (imgS a1 b) (imgB a0 b) l.val → bestR (imgS a1 b) (imgB a0 b) l.val = liftOf le200 (imgF a0 a1 b) (bestS a0 a1 b l)) :=
  merge_eq le200 le100 (imgF a0 a1 b) (fun c k h => fsR_high _ _ c k h) l.isLt
    (rank_ranked (flatPos_injective 91 256) (by rw [Fintype.card_prod, Fintype.card_fin, Fintype.card_fin]; omega)) (rank_bestS a0 a1 b l)

include hK in
/-- The scores detected. -/
theorem outScore_at (l : Fin 100) : outScore (val3T (rowM a1 K)) (ix2 b l) = scoreR (imgS a1 b) (imgB a0 b) l.val := by
  pointwise [outScore, validT]
  rw [val3_at a0 a1 b K hK]
  obtain ⟨h1, h2⟩ := merge_at a0 a1 b l
  unfold scoreR
  by_cases h : validR (imgS a1 b) (imgB a0 b) l.val
  · rw [if_pos h, if_pos (h1.mp h), h2 h]; rfl
  · rw [if_neg h, if_neg (fun h' => h (h1.mpr h'))]

include hK in
/-- The boxes detected. -/
theorem outBox_at (l : Fin 100) (r : Fin 4) : outBox (val3T (rowM a1 K)) (idx3T (rowM a1 K)) (flatB (box2T (boxM a0 a1) (idx2T (keptM a1 K)))) (ix3 b l r)
    = coordR (imgS a1 b) (imgB a0 b) r l.val := by
  pointwise [outBox, validT]
  rw [gather3_at, val3_at a0 a1 b K hK]
  simp only [col_at a0 a1 b K hK, clamp_pos (show (place (bestS a0 a1 b l)).val ≤ 9099 by omega) (by norm_num)]
  obtain ⟨h1, h2⟩ := merge_at a0 a1 b l
  unfold coordR
  by_cases h : validR (imgS a1 b) (imgB a0 b) l.val
  · rw [if_pos h, if_pos (h1.mp h), h2 h]
    exact (flatB_at b _ _ r).trans (box2_at a0 a1 b K hK _ _ r)
  · rw [if_neg h, if_neg (fun h' => h (h1.mpr h'))]

include hK in
/-- The classes detected. -/
theorem outClass_at (l : Fin 100) : outClass (val3T (rowM a1 K)) (idx3T (rowM a1 K)) (ix2 b l) = classR (imgS a1 b) (imgB a0 b) l.val := by
  pointwise [outClass, validT]
  rw [gather4_at, val3_at a0 a1 b K hK]
  simp only [col_at a0 a1 b K hK, clamp_pos (show (place (bestS a0 a1 b l)).val ≤ 9099 by omega) (by norm_num)]
  obtain ⟨h1, h2⟩ := merge_at a0 a1 b l
  unfold classR
  by_cases h : validR (imgS a1 b) (imgB a0 b) l.val
  · rw [if_pos h, if_pos (h1.mp h), h2 h]
    exact flatC_at _
  · rw [if_neg h, if_neg (fun h' => h (h1.mpr h'))]

include hK in
/-- The number of detections. -/
theorem outCount_at : outCount (val3T (rowM a1 K)) (ix1 b) = countR (imgS a1 b) (imgB a0 b) := by
  pointwise [outCount, validT]
  refine (Finset.sum_eq_fold Finset.univ _).symm.trans ?_
  unfold countR
  refine Finset.sum_congr rfl fun l _ => ?_
  refine (congrArg (fun z : EReal => BitVec.setWidth 32 (BitVec.ofBool (decide (cut < z)))) (val3_at a0 a1 b K hK l)).trans ?_
  rw [ofBool_bit]
  have h1 := (merge_at a0 a1 b l).1
  by_cases h : validR (imgS a1 b) (imgB a0 b) l.val
  · rw [if_pos h, if_pos (h1.mp h)]; rfl
  · rw [if_neg h, if_neg (fun h' => h (h1.mpr h'))]; rfl

end Image
end Cert.ReferenceIdeal.Hand
-- ==== Proof.RefResult.lean ====
/-
  Hand-written. What the reference's four results hold, image by image: the detection of the image's scores and boxes.
-/
module

public import proofs.«01_k».proof.Proof.RefValue

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe
open Idealize.ShloMosaic.StableHlo
open Cert.Hand
open Cert.KernelIdeal.Hand (ofBool_bit)
open scoped Classical

variable (m : (ℓ : Loc nD τ sig) → Buf (Elt Ideal) ℓ) (c : Dev nD)

/-- The boxes at launch. -/
abbrev A0 : FVec Ideal S8x20000x1x4 .f32 := m ((c.tc : Thread nD τ).loc main_arg0)
/-- The scores at launch. -/
abbrev A1 : FVec Ideal S8x20000x91 .f32 := m ((c.tc : Thread nD τ).loc main_arg1)
/-- Every buffer at launch. -/
abbrev L : Valuation τ sig (Elt Ideal) := fun b => m ⟨c, b⟩
/-- Every buffer where the loop is entered. -/
abbrev E : Valuation τ sig (Elt Ideal) := entryContents preI m c
/-- Every buffer where the loop is left. -/
abbrev X : Valuation τ sig (Elt Ideal) := after condOps (atTrip condOps bodyI (entryContents preI m) 200 c)

/-- The lines before the loop, stretch by stretch. -/
theorem E_eq : E m c = after hostOps0_2 (after hostOps0_1 (after hostOps0 (L m c))) := rfl

/-- The boxes where the selection starts. -/
theorem entry_v0 : after hostOps0_1 (after hostOps0 (L m c)) (Proc.devRef .tc main_v0) = shapeCast S8x20000x4 (A0 m c) shapeCasts_S8x20000x1x4_S8x20000x4 :=
  (after_of_writes_sub hostOps0_1 _ hostOps0_1_writes (by decide +kernel)).trans (at_v0 (L m c))

/-- The masked scores where the selection starts. -/
theorem entry_v4 : after hostOps0_1 (after hostOps0 (L m c)) (Proc.devRef .tc main_v4) = maskedT (A1 m c) := at_v4 (L m c)

/-- The scores by rank where the loop is entered. -/
theorem entry_values : E m c (Proc.devRef .tc main_values) = valT (maskedT (A1 m c)) := by
  rw [E_eq, at_values, entry_v4]
/-- The boxes by rank where the loop is entered. -/
theorem entry_v11 : E m c (Proc.devRef .tc main_v11) = boxM (A0 m c) (A1 m c) := by
  rw [E_eq, at_v11, entry_v4, entry_v0]
/-- The overlaps where the loop is entered. -/
theorem entry_v62_0 : E m c (Proc.devRef .tc main_v62_0) = iouT (boxM (A0 m c) (A1 m c)) := by
  rw [E_eq, at_v62_0, entry_v4, entry_v0]
/-- The mask where the loop is entered. -/
theorem entry_v62_4 : E m c (Proc.devRef .tc main_v62_4) = aboveT (valT (maskedT (A1 m c))) := by
  rw [E_eq, at_v62_4, entry_v4]

/-- The overlaps by rank. -/
abbrev ovM (b : Fin 8) (k : Fin 91) : ℕ → ℕ → EReal :=
  overlap (boxR (imgS (A1 m c) b) (imgB (A0 m c) b) k 0) (boxR (imgS (A1 m c) b) (imgB (A0 m c) b) k 1) (boxR (imgS (A1 m c) b) (imgB (A0 m c) b) k 2)
    (boxR (imgS (A1 m c) b) (imgB (A0 m c) b) k 3)
/-- Which ranks' scores are above the cut. -/
abbrev abM (b : Fin 8) (k : Fin 91) : ℕ → Prop := aboveR (imgS (A1 m c) b) k

/-- The loop's carried buffers where it is entered. -/
theorem entry_inv : LoopInv (ovM m c) (abM m c) 0 (E m c) where
  over b k i j := by
    rw [entry_v62_0]
    exact iou_at b _ (fun r n => boxR (imgS (A1 m c) b) (imgB (A0 m c) b) k r n) k (fun n r => box_at (A0 m c) (A1 m c) b k n r) i j
  pos j := by
    rw [E_eq, at_v62_1]
    pointwise []
  i := by
    rw [E_eq, at_v62_3]; rfl
  keep b k j := by
    rw [entry_v62_4]
    exact above_at (A1 m c) b k j

/-- The final mask. -/
abbrev maskM : IVec S8x91x200 1 := X m c (Proc.devRef .tc main_v62_4)

/-- The mask where the loop is left. -/
theorem mask_at (b : Fin 8) (k : Fin 91) (j : Fin 200) : maskM m c (ix3 b k j)
    = BitVec.ofBool (decide (keepAt (clashR (imgS (A1 m c) b) (imgB (A0 m c) b) k) (aboveR (imgS (A1 m c) b) k) 200 j.val)) := by
  have h1 : X m c (Proc.devRef .tc main_v62_4) = STEP^[200] (E m c) (Proc.devRef .tc main_v62_4) :=
    (cond_keeps _ main_v62_4 (by decide)).trans (atK_agree m c 200 main_v62_4 (by decide))
  show (X m c (Proc.devRef .tc main_v62_4) : IVec S8x91x200 1) (ix3 b k j) = _
  rw [h1]
  exact (loop_inv (ovM m c) (abM m c) (E m c) (entry_inv m c) 200 le_rfl).keep b k j

/-- The scores by rank where the loop is left. -/
theorem exit_values : X m c (Proc.devRef .tc main_values) = valT (maskedT (A1 m c)) := by
  rw [X, after_of_writes_sub condOps _ condOps_writes (by decide +kernel),
    loop_keep _ _ (by decide +kernel) (by decide +kernel) (by decide +kernel) (by decide +kernel) (by decide +kernel)]
  exact entry_values m c
/-- The boxes by rank where the loop is left. -/
theorem exit_v11 : X m c (Proc.devRef .tc main_v11) = boxM (A0 m c) (A1 m c) := by
  rw [X, after_of_writes_sub condOps _ condOps_writes (by decide +kernel),
    loop_keep _ _ (by decide +kernel) (by decide +kernel) (by decide +kernel) (by decide +kernel) (by decide +kernel)]
  exact entry_v11 m c

/-- Every buffer where the merge starts. -/
abbrev P : Valuation τ sig (Elt Ideal) := after hostOps0_4 (after hostOps0_3 (X m c))

/-- The kept scores where the merge starts. -/
theorem P_v63 : P m c (Proc.devRef .tc main_v63) = keptM (A1 m c) (maskM m c) := by
  rw [P, at_v63, exit_values]
/-- The boxes where the merge starts. -/
theorem P_v11 : P m c (Proc.devRef .tc main_v11) = boxM (A0 m c) (A1 m c) := by
  rw [P, after_of_writes_sub hostOps0_4 _ hostOps0_4_writes (by decide +kernel), after_of_writes_sub hostOps0_3 _ hostOps0_3_writes (by decide +kernel), exit_v11]

/-- Every buffer where the merge ends. -/
abbrev Q : Valuation τ sig (Elt Ideal) := after hostOps0_5 (P m c)

/-- The lines after the loop, stretch by stretch. -/
theorem final_eq : finalContents condOps preI bodyI postI 200 m c = after hostOps0_10 (after hostOps0_9 (after hostOps0_8 (after hostOps0_7 (after hostOps0_6 (Q m c))))) := rfl

/-- The boxes the reference ends with. -/
theorem final_v97 : finalContents condOps preI bodyI postI 200 m c (Proc.devRef .tc main_v97)
    = outBox (val3T (rowM (A1 m c) (maskM m c))) (idx3T (rowM (A1 m c) (maskM m c))) (flatB (box2T (boxM (A0 m c) (A1 m c)) (idx2T (keptM (A1 m c) (maskM m c))))) := by
  rw [final_eq, after_of_writes_sub hostOps0_10 _ hostOps0_10_writes (by decide +kernel), after_of_writes_sub hostOps0_9 _ hostOps0_9_writes (by decide +kernel), at_v97,
    after_of_writes_sub hostOps0_6 _ hostOps0_6_writes (by decide +kernel), after_of_writes_sub hostOps0_6 _ hostOps0_6_writes (by decide +kernel), Q, at_v92, at_v83, P_v63, P_v11]
  rfl

/-- The scores the reference ends with. -/
theorem final_v95 : finalContents condOps preI bodyI postI 200 m c (Proc.devRef .tc main_v95) = outScore (val3T (rowM (A1 m c) (maskM m c))) := by
  rw [final_eq, after_of_writes_sub hostOps0_10 _ hostOps0_10_writes (by decide +kernel), after_of_writes_sub hostOps0_9 _ hostOps0_9_writes (by decide +kernel),
    after_of_writes_sub hostOps0_8 _ hostOps0_8_writes (by decide +kernel), after_of_writes_sub hostOps0_7 _ hostOps0_7_writes (by decide +kernel), at_v95, Q, at_v92, at_values_13, at_cst_21, P_v63]
  rfl

/-- The classes the reference ends with. -/
theorem final_v98 : finalContents condOps preI bodyI postI 200 m c (Proc.devRef .tc main_v98)
    = outClass (val3T (rowM (A1 m c) (maskM m c))) (idx3T (rowM (A1 m c) (maskM m c))) := by
  rw [final_eq, at_v98,
    after_of_writes_sub hostOps0_8 _ hostOps0_8_writes (by decide +kernel), after_of_writes_sub hostOps0_7 _ hostOps0_7_writes (by decide +kernel), after_of_writes_sub hostOps0_6 _ hostOps0_6_writes (by decide +kernel),
    after_of_writes_sub hostOps0_8 _ hostOps0_8_writes (by decide +kernel), after_of_writes_sub hostOps0_7 _ hostOps0_7_writes (by decide +kernel), after_of_writes_sub hostOps0_6 _ hostOps0_6_writes (by decide +kernel),
    Q, at_v92, at_v90, P_v63]
  rfl

/-- The count the reference ends with. -/
theorem final_v94 : finalContents condOps preI bodyI postI 200 m c (Proc.devRef .tc main_v94) = outCount (val3T (rowM (A1 m c) (maskM m c))) := by
  rw [final_eq, after_of_writes_sub hostOps0_10 _ hostOps0_10_writes (by decide +kernel), after_of_writes_sub hostOps0_9 _ hostOps0_9_writes (by decide +kernel),
    after_of_writes_sub hostOps0_8 _ hostOps0_8_writes (by decide +kernel), after_of_writes_sub hostOps0_7 _ hostOps0_7_writes (by decide +kernel),
    after_of_writes_sub hostOps0_6 _ hostOps0_6_writes (by decide +kernel), Q, at_v94, P_v63]

/-- The boxes of the images' detections. -/
def out0 : FVec Ideal S8x100x4 .f32 := fun i => coordR (imgS (A1 m c) (i 0)) (imgB (A0 m c) (i 0)) (i 2) (i 1).val
/-- The scores of the images' detections. -/
def out1 : FVec Ideal S8x100 .f32 := fun i => scoreR (imgS (A1 m c) (i 0)) (imgB (A0 m c) (i 0)) (i 1).val
/-- The classes of the images' detections. -/
def out2 : IVec S8x100 32 := fun i => classR (imgS (A1 m c) (i 0)) (imgB (A0 m c) (i 0)) (i 1).val
/-- How many detections each image has. -/
def out3 : IVec S8 32 := fun i => countR (imgS (A1 m c) (i 0)) (imgB (A0 m c) (i 0))

/-- Every run ends with the four results at the images' detections, and the arguments as launched. -/
theorem run (ρ : Dev nD → PrngReg) : θ_run defs (onTc (τ := τ) (main (F := Ideal))) ⟨m, fun _ => 0, ρ⟩ (fun r => ∀ c : Dev nD,
    r.2.mem ((c.tc : Thread nD τ).loc main_v97) = out0 m c
    ∧ r.2.mem ((c.tc : Thread nD τ).loc main_v95) = out1 m c
    ∧ r.2.mem ((c.tc : Thread nD τ).loc main_v98) = out2 m c
    ∧ r.2.mem ((c.tc : Thread nD τ).loc main_v94) = out3 m c
    ∧ r.2.mem ((c.tc : Thread nD τ).loc main_arg0) = m ((c.tc : Thread nD τ).loc main_arg0)
    ∧ r.2.mem ((c.tc : Thread nD τ).loc main_arg1) = m ((c.tc : Thread nD τ).loc main_arg1)) := by
  refine (run_fold m ρ).mono fun r h c => ⟨(h c main_v97 rfl).trans ((final_v97 m c).trans ?_), (h c main_v95 rfl).trans ((final_v95 m c).trans ?_),
    (h c main_v98 rfl).trans ((final_v98 m c).trans ?_), (h c main_v94 rfl).trans ((final_v94 m c).trans ?_),
    (h c main_arg0 rfl).trans (final_arg0 m c), (h c main_arg1 rfl).trans (final_arg1 m c)⟩
  · funext i
    rw [eq_ix3 i]
    exact outBox_at (A0 m c) (A1 m c) (i 0) (maskM m c) (mask_at m c (i 0)) (i 1) (i 2)
  · funext i
    rw [eq_ix2 i]
    exact outScore_at (A0 m c) (A1 m c) (i 0) (maskM m c) (mask_at m c (i 0)) (i 1)
  · funext i
    rw [eq_ix2 i]
    exact outClass_at (A0 m c) (A1 m c) (i 0) (maskM m c) (mask_at m c (i 0)) (i 1)
  · funext i
    rw [eq_ix1 i]
    exact outCount_at (A0 m c) (A1 m c) (i 0) (maskM m c) (mask_at m c (i 0))

end Cert.ReferenceIdeal.Hand
-- ==== Proof.lean ====
/-
  The proof of the certificate's claim: the three frames, that the idealised kernel is the kernel (no operation was
  replaced), and the value claim.
-/
module

public import proofs.«01_k».proof.Defs
public import proofs.«01_k».proof.Proof.KernelRun
public import proofs.«01_k».proof.Proof.KernelIdealRun
public import proofs.«01_k».proof.Proof.ReferenceRun
public import proofs.«01_k».proof.Proof.KernelResult
public import proofs.«01_k».proof.Proof.RefResult

@[expose] public section

noncomputable section

namespace Cert.Proof

open Idealize.ShloMosaic Idealize.SL.Sem

/-- Both programs end with the detections of the same images, and equal arguments give equal images. -/
theorem algebraic : Cert.algebraic_KernelIdeal_ReferenceIdeal (hKernelIdeal := Cert.KernelIdeal.Gen.facts) (hReferenceIdeal := Cert.ReferenceIdeal.Gen.facts) := by
  intro m g m' g' _ h
  refine ⟨fun c => Cert.KernelIdeal.Hand.res0 m c, fun c => Cert.KernelIdeal.Hand.res1 m c, fun c => Cert.KernelIdeal.Hand.res2 m c,
    fun c => Cert.KernelIdeal.Hand.res3 m c, Cert.KernelIdeal.Hand.run m g, ?_⟩
  refine (θ_run _ _ _).mono (fun r hr c => ?_) (Cert.ReferenceIdeal.Hand.run m' g')
  obtain ⟨h0, h1, h2, h3, h4, h5⟩ := hr c
  have e0 : Cert.ReferenceIdeal.Hand.A0 m' c = m ((c.tc : Thread Cert.KernelIdeal.nD Cert.KernelIdeal.τ).loc Cert.KernelIdeal.main_arg0) := (h c).1
  have e1 : Cert.ReferenceIdeal.Hand.A1 m' c = m ((c.tc : Thread Cert.KernelIdeal.nD Cert.KernelIdeal.τ).loc Cert.KernelIdeal.main_arg1) := (h c).2
  refine ⟨h0.trans ?_, h1.trans ?_, h2.trans ?_, h3.trans ?_, h4, h5⟩
  · unfold Cert.ReferenceIdeal.Hand.out0
    rw [e0, e1]
    rfl
  · unfold Cert.ReferenceIdeal.Hand.out1
    rw [e0, e1]
    rfl
  · unfold Cert.ReferenceIdeal.Hand.out2
    rw [e0, e1]
    rfl
  · unfold Cert.ReferenceIdeal.Hand.out3
    rw [e0, e1]
    rfl

/-- Everything the certificate claims. -/
theorem claim : Cert.Claim :=
  ⟨Cert.Kernel.Gen.facts, Cert.KernelIdeal.Gen.facts, Cert.ReferenceIdeal.Gen.facts,
    fun m g _ => Cert.Kernel.Hand.frame m g,
    fun m g _ => Cert.KernelIdeal.Hand.frame m g,
    fun m g _ => Cert.ReferenceIdeal.Hand.frame m g,
    trivial, algebraic⟩

end Cert.Proof

end
